-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_is_bf16 [hPre_gamma_is_bf16 : Cert.Pre_gamma_is_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_is_bf16 [hPre_gamma_is_bf16 : Cert.Pre_gamma_is_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_gamma_is_bf16 [hKernelIdeal : Cert.KernelIdeal.Facts] [hPre_gamma_is_bf16 : Cert.Pre_gamma_is_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_is_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_gamma_is_bf16 [hReferenceIdeal : Cert.ReferenceIdeal.Facts] [hPre_gamma_is_bf16 : Cert.Pre_gamma_is_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_is_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_gamma_is_bf16 [hKernelIdeal : Cert.KernelIdeal.Facts] [hReferenceIdeal : Cert.ReferenceIdeal.Facts] [hPre_gamma_is_bf16 : Cert.Pre_gamma_is_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_is_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_gamma_is_bf16 : Cert.Pre_gamma_is_bf16.Facts),
    quiescent_Kernel (hKernel := hKernel)
    ∧ quiescent_KernelIdeal (hKernelIdeal := hKernelIdeal)
    ∧ quiescent_KernelIdeal_pre_gamma_is_bf16 (hKernelIdeal := hKernelIdeal) (hPre_gamma_is_bf16 := hPre_gamma_is_bf16)
    ∧ quiescent_ReferenceIdeal (hReferenceIdeal := hReferenceIdeal)
    ∧ quiescent_ReferenceIdeal_pre_gamma_is_bf16 (hReferenceIdeal := hReferenceIdeal) (hPre_gamma_is_bf16 := hPre_gamma_is_bf16)
    ∧ preserves_Kernel_KernelIdeal
    ∧ algebraic_KernelIdeal_ReferenceIdeal_pre_gamma_is_bf16 (hKernelIdeal := hKernelIdeal) (hReferenceIdeal := hReferenceIdeal) (hPre_gamma_is_bf16 := hPre_gamma_is_bf16)
-- ==== Pre_gamma_is_bf16.lean ====
abbrev S30x2048x1280 : Shape := ⟨3, ![30, 2048, 1280]⟩
abbrev S1280 : Shape := ⟨1, ![1280]⟩
abbrev S_ : Shape := ⟨0, ![]⟩

class Facts : Prop where
  bitsLt_bf16_f32 : FTy.bits .bf16 < FTy.bits .f32
  bcast_S_S1280 : S_.BroadcastsInDim S1280 (![] : Fin 0 → Fin S1280.rank)

variable [Facts]

def fn {F : FTy → Type} [FloatOps F] (main_arg0 : FVec F S30x2048x1280 .bf16) (main_arg1 : FVec F S1280 .bf16) : IVec S1280 1 :=
  let main_v0 : FVec F S1280 .f32 := (extf .f32 · bitsLt_bf16_f32) main_arg1
  let main_v1 : FVec F S1280 .f32 := Host.absf main_v0
  let main_cst : FVec F S_ .f32 := constant S_ .f32 0x7F7F0000#32
  let main_v2 : FVec F S1280 .f32 := broadcastInDim S1280 ![] bcast_S_S1280 main_cst
  let main_v3 : IVec S1280 1 := cmpf .ole main_v1 main_v2
  main_v3
-- ==== Kernel.lean ====
abbrev S30x2048x1280 : Shape := ⟨3, ![30, 2048, 1280]⟩
abbrev S1280 : Shape := ⟨1, ![1280]⟩
abbrev S1x1280 : Shape := ⟨2, ![1, 1280]⟩
abbrev S10x30x2048 : Shape := ⟨3, ![10, 30, 2048]⟩
abbrev S8x128x1280 : Shape := ⟨3, ![8, 128, 1280]⟩
abbrev S10x8x128 : Shape := ⟨3, ![10, 8, 128]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩
abbrev S30x2048x10 : Shape := ⟨3, ![30, 2048, 10]⟩

abbrev nBuf : Space → Nat
  | .hbm => 7
  | .vmem => 7
  | .smem => 0
  | _ => 0

abbrev bufTy : (tb : Table) → Fin (tcTables nBuf tb) → BufTy
  | .hbm, ⟨0, _⟩ => ⟨S30x2048x1280, .bf16⟩
  | .hbm, ⟨1, _⟩ => ⟨S1280, .bf16⟩
  | .hbm, ⟨2, _⟩ => ⟨S1280, .f32⟩
  | .hbm, ⟨3, _⟩ => ⟨S1x1280, .f32⟩
  | .hbm, ⟨4, _⟩ => ⟨S30x2048x1280, .fp8e4m3⟩
  | .hbm, ⟨5, _⟩ => ⟨S10x30x2048, .f32⟩
  | .hbm, ⟨6, _⟩ => ⟨S30x2048x10, .f32⟩
  | .local _ .vmem, ⟨0, _⟩ => ⟨S8x128x1280, .bf16⟩
  | .local _ .vmem, ⟨1, _⟩ => ⟨S8x128x1280, .bf16⟩
  | .local _ .vmem, ⟨2, _⟩ => ⟨S1x1280, .f32⟩
  | .local _ .vmem, ⟨3, _⟩ => ⟨S8x128x1280, .fp8e4m3⟩
  | .local _ .vmem, ⟨4, _⟩ => ⟨S8x128x1280, .fp8e4m3⟩
  | .local _ .vmem, ⟨5, _⟩ => ⟨S10x8x128, .f32⟩
  | .local _ .vmem, ⟨6, _⟩ => ⟨S10x8x128, .f32⟩
  | _, _ => ⟨S30x2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_2 : BitVec 32 := 1#32
  ⟨c0_i32_1, v8, c1_i32_2⟩
def k0_off1 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v10 : Index := Scalar.indexCast arg6
  let c0 : Index := 0#32
  let c0_4 : Index := 0#32
  ![v10.toNat, 0, 0]
def k0_off2 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v16 : Index := Scalar.indexCast arg6
  let c0_5 : Index := 0#32
  let c128 : Index := 128#32
  ![v16.toNat, 0, 128]
def k0_off3 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v22 : Index := Scalar.indexCast arg6
  let c0_6 : Index := 0#32
  let c256 : Index := 256#32
  ![v22.toNat, 0, 256]
def k0_off4 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v28 : Index := Scalar.indexCast arg6
  let c0_7 : Index := 0#32
  let c384 : Index := 384#32
  ![v28.toNat, 0, 384]
def k0_off5 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v34 : Index := Scalar.indexCast arg6
  let c0_8 : Index := 0#32
  let c512 : Index := 512#32
  ![v34.toNat, 0, 512]
def k0_off6 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v40 : Index := Scalar.indexCast arg6
  let c0_9 : Index := 0#32
  let c640 : Index := 640#32
  ![v40.toNat, 0, 640]
def k0_off7 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v46 : Index := Scalar.indexCast arg6
  let c0_10 : Index := 0#32
  let c768 : Index := 768#32
  ![v46.toNat, 0, 768]
def k0_off8 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v52 : Index := Scalar.indexCast arg6
  let c0_11 : Index := 0#32
  let c896 : Index := 896#32
  ![v52.toNat, 0, 896]
def k0_off9 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v58 : Index := Scalar.indexCast arg6
  let c0_12 : Index := 0#32
  let c1024 : Index := 1024#32
  ![v58.toNat, 0, 1024]
def k0_off10 (i : grid0.Coords) (k0_t1 : Fin (k0_t1_loop i).trips) : Fin 3 → Nat :=
  let c0_i32_1 : BitVec 32 := 0#32
  let c1_i32_2 : BitVec 32 := 1#32
  let arg6 : BitVec 32 := Scf.iv c0_i32_1 c1_i32_2 k0_t1
  let v64 : Index := Scalar.indexCast arg6
  let c0_13 : Index := 0#32
  let c1152 : Index := 1152#32
  ![v64.toNat, 0, 1152]
def k0_off11 (i : grid0.Coords) (k0_t1 : Fin (k0_t1_loop i).trips) : Fin 3 → Nat :=
  let c0_250 : Index := 0#32
  let c0_i32_1 : BitVec 32 := 0#32
  let c1_i32_2 : BitVec 32 := 1#32
  let arg6 : BitVec 32 := Scf.iv c0_i32_1 c1_i32_2 k0_t1
  let v921 : Index := Scalar.indexCast arg6
  let c0_251 : Index := 0#32
  ![0, v921.toNat, 0]
def k0_off12 (i : grid0.Coords) (k0_t1 : Fin (k0_t1_loop i).trips) : Fin 3 → Nat :=
  let c1 : Index := 1#32
  let c0_i32_1 : BitVec 32 := 0#32
  let c1_i32_2 : BitVec 32 := 1#32
  let arg6 : BitVec 32 := Scf.iv c0_i32_1 c1_i32_2 k0_t1
  let v926 : Index := Scalar.indexCast arg6
  let c0_252 : Index := 0#32
  ![1, v926.toNat, 0]
def k0_off13 (i : grid0.Coords) (k0_t1 : Fin (k0_t1_loop i).trips) : Fin 3 → Nat :=
  let c2 : Index := 2#32
  let c0_i32_1 : BitVec 32 := 0#32
  let c1_i32_2 : BitVec 32 := 1#32
  let arg6 : BitVec 32 := Scf.iv c0_i32_1 c1_i32_2 k0_t1
  let v931 : Index := Scalar.indexCast arg6
  let c0_253 : Index := 0#32
  ![2, v931.toNat, 0]
def k0_off14 (i : grid0.Coords) (k0_t1 : Fin (k0_t1_loop i).trips) : Fin 3 → Nat :=
  let c3 : Index := 3#32
  let c0_i32_1 : BitVec 32 := 0#32
  let c1_i32_2 : BitVec 32 := 1#32
  let arg6 : BitVec 32 := Scf.iv c0_i32_1 c1_i32_2 k0_t1
  let v936 : Index := Scalar.indexCast arg6
  let c0_254 : Index := 0#32
  ![3, v936.toNat, 0]
def k0_off15 (i : grid0.Coords) (k0_t1 : Fin (k0_t1_loop i).trips) : Fin 3 → Nat :=
  let c4 : Index := 4#32
  let c0_i32_1 : BitVec 32 := 0#32
  let c1_i32_2 : BitVec 32 := 1#32
  let arg6 : BitVec 32 := Scf.iv c0_i32_1 c1_i32_2 k0_t1
  let v941 : Index := Scalar.indexCast arg6
  let c0_255 : Index := 0#32
  ![4, v941.toNat, 0]
def k0_off16 (i : grid0.Coords) (k0_t1 : Fin (k0_t1_loop i).trips) : Fin 3 → Nat :=
  let c5 : Index := 5#32
  let c0_i32_1 : BitVec 32 := 0#32
  let c1_i32_2 : BitVec 32 := 1#32
  let arg6 : BitVec 32 := Scf.iv c0_i32_1 c1_i32_2 k0_t1
  let v946 : Index := Scalar.indexCast arg6
  let c0_256 : Index := 0#32
  ![5, v946.toNat, 0]
def k0_off17 (i : grid0.Coords) (k0_t1 : Fin (k0_t1_loop i).trips) : Fin 3 → Nat :=
  let c6 : Index := 6#32
  let c0_i32_1 : BitVec 32 := 0#32
  let c1_i32_2 : BitVec 32 := 1#32
  let arg6 : BitVec 32 := Scf.iv c0_i32_1 c1_i32_2 k0_t1
  let v951 : Index := Scalar.indexCast arg6
  let c0_257 : Index := 0#32
  ![6, v951.toNat, 0]
def k0_off18 (i : grid0.Coords) (k0_t1 : Fin (k0_t1_loop i).trips) : Fin 3 → Nat :=
  let c7 : Index := 7#32
  let c0_i32_1 : BitVec 32 := 0#32
  let c1_i32_2 : BitVec 32 := 1#32
  let arg6 : BitVec 32 := Scf.iv c0_i32_1 c1_i32_2 k0_t1
  let v956 : Index := Scalar.indexCast arg6
  let c0_258 : Index := 0#32
  ![7, v956.toNat, 0]
def k0_off19 (i : grid0.Coords) (k0_t1 : Fin (k0_t1_loop i).trips) : Fin 3 → Nat :=
  let c8 : Index := 8#32
  let c0_i32_1 : BitVec 32 := 0#32
  let c1_i32_2 : BitVec 32 := 1#32
  let arg6 : BitVec 32 := Scf.iv c0_i32_1 c1_i32_2 k0_t1
  let v961 : Index := Scalar.indexCast arg6
  let c0_259 : Index := 0#32
  ![8, v961.toNat, 0]
def k0_off20 (i : grid0.Coords) (k0_t1 : Fin (k0_t1_loop i).trips) : Fin 3 → Nat :=
  let c9 : Index := 9#32
  let c0_i32_1 : BitVec 32 := 0#32
  let c1_i32_2 : BitVec 32 := 1#32
  let arg6 : BitVec 32 := Scf.iv c0_i32_1 c1_i32_2 k0_t1
  let v966 : Index := Scalar.indexCast arg6
  let c0_260 : Index := 0#32
  ![9, v966.toNat, 0]
@[reducible] def k0_t2_loop (i : grid0.Coords) : Scf.Loop 32 :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let v5 : BitVec 32 := Scalar.addi c0_i32_1 v4
  let c1_i32_3 : BitVec 32 := 1#32
  ⟨v8, v5, c1_i32_3⟩
def k0_off21 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v10 : Index := Scalar.indexCast arg6
  let c0 : Index := 0#32
  let c0_4 : Index := 0#32
  ![v10.toNat, 0, 0]
def k0_off22 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v16 : Index := Scalar.indexCast arg6
  let c0_5 : Index := 0#32
  let c128 : Index := 128#32
  ![v16.toNat, 0, 128]
def k0_off23 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v22 : Index := Scalar.indexCast arg6
  let c0_6 : Index := 0#32
  let c256 : Index := 256#32
  ![v22.toNat, 0, 256]
def k0_off24 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v28 : Index := Scalar.indexCast arg6
  let c0_7 : Index := 0#32
  let c384 : Index := 384#32
  ![v28.toNat, 0, 384]
def k0_off25 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v34 : Index := Scalar.indexCast arg6
  let c0_8 : Index := 0#32
  let c512 : Index := 512#32
  ![v34.toNat, 0, 512]
def k0_off26 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v40 : Index := Scalar.indexCast arg6
  let c0_9 : Index := 0#32
  let c640 : Index := 640#32
  ![v40.toNat, 0, 640]
def k0_off27 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v46 : Index := Scalar.indexCast arg6
  let c0_10 : Index := 0#32
  let c768 : Index := 768#32
  ![v46.toNat, 0, 768]
def k0_off28 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v52 : Index := Scalar.indexCast arg6
  let c0_11 : Index := 0#32
  let c896 : Index := 896#32
  ![v52.toNat, 0, 896]
def k0_off29 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v58 : Index := Scalar.indexCast arg6
  let c0_12 : Index := 0#32
  let c1024 : Index := 1024#32
  ![v58.toNat, 0, 1024]
def k0_off30 (i : grid0.Coords) (k0_t2 : Fin (k0_t2_loop i).trips) : Fin 3 → Nat :=
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v64 : Index := Scalar.indexCast arg6
  let c0_13 : Index := 0#32
  let c1152 : Index := 1152#32
  ![v64.toNat, 0, 1152]
def k0_off31 (i : grid0.Coords) (k0_t2 : Fin (k0_t2_loop i).trips) : Fin 3 → Nat :=
  let c0_250 : Index := 0#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v921 : Index := Scalar.indexCast arg6
  let c0_251 : Index := 0#32
  ![0, v921.toNat, 0]
def k0_off32 (i : grid0.Coords) (k0_t2 : Fin (k0_t2_loop i).trips) : Fin 3 → Nat :=
  let c1 : Index := 1#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v926 : Index := Scalar.indexCast arg6
  let c0_252 : Index := 0#32
  ![1, v926.toNat, 0]
def k0_off33 (i : grid0.Coords) (k0_t2 : Fin (k0_t2_loop i).trips) : Fin 3 → Nat :=
  let c2 : Index := 2#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v931 : Index := Scalar.indexCast arg6
  let c0_253 : Index := 0#32
  ![2, v931.toNat, 0]
def k0_off34 (i : grid0.Coords) (k0_t2 : Fin (k0_t2_loop i).trips) : Fin 3 → Nat :=
  let c3 : Index := 3#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v936 : Index := Scalar.indexCast arg6
  let c0_254 : Index := 0#32
  ![3, v936.toNat, 0]
def k0_off35 (i : grid0.Coords) (k0_t2 : Fin (k0_t2_loop i).trips) : Fin 3 → Nat :=
  let c4 : Index := 4#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v941 : Index := Scalar.indexCast arg6
  let c0_255 : Index := 0#32
  ![4, v941.toNat, 0]
def k0_off36 (i : grid0.Coords) (k0_t2 : Fin (k0_t2_loop i).trips) : Fin 3 → Nat :=
  let c5 : Index := 5#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v946 : Index := Scalar.indexCast arg6
  let c0_256 : Index := 0#32
  ![5, v946.toNat, 0]
def k0_off37 (i : grid0.Coords) (k0_t2 : Fin (k0_t2_loop i).trips) : Fin 3 → Nat :=
  let c6 : Index := 6#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v951 : Index := Scalar.indexCast arg6
  let c0_257 : Index := 0#32
  ![6, v951.toNat, 0]
def k0_off38 (i : grid0.Coords) (k0_t2 : Fin (k0_t2_loop i).trips) : Fin 3 → Nat :=
  let c7 : Index := 7#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v956 : Index := Scalar.indexCast arg6
  let c0_258 : Index := 0#32
  ![7, v956.toNat, 0]
def k0_off39 (i : grid0.Coords) (k0_t2 : Fin (k0_t2_loop i).trips) : Fin 3 → Nat :=
  let c8 : Index := 8#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v961 : Index := Scalar.indexCast arg6
  let c0_259 : Index := 0#32
  ![8, v961.toNat, 0]
def k0_off40 (i : grid0.Coords) (k0_t2 : Fin (k0_t2_loop i).trips) : Fin 3 → Nat :=
  let c9 : Index := 9#32
  let c0_i32_1 : BitVec 32 := 0#32
  let c8_i32_0 : BitVec 32 := 8#32
  let c30_i32 : BitVec 32 := 30#32
  let arg0 : BitVec 32 := BitVec.ofNat 32 (i 0).val
  let c8_i32 : BitVec 32 := 8#32
  let v1 : BitVec 32 := Scalar.muli arg0 c8_i32
  let v2 : BitVec 32 := Scalar.subi c30_i32 v1
  let v3 : BitVec 32 := Scalar.minsi c8_i32_0 v2
  let v4 : BitVec 32 := Scalar.subi v3 c0_i32_1
  let c1_i32 : BitVec 32 := 1#32
  let v6 : BitVec 32 := Scalar.divsi v4 c1_i32
  let v7 : BitVec 32 := Scalar.muli v6 c1_i32
  let v8 : BitVec 32 := Scalar.addi c0_i32_1 v7
  let c1_i32_3 : BitVec 32 := 1#32
  let arg6 : BitVec 32 := Scf.iv v8 c1_i32_3 k0_t2
  let v966 : Index := Scalar.indexCast arg6
  let c0_260 : Index := 0#32
  ![9, v966.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S10x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S30x2048x1280 : Shape := ⟨3, ![30, 2048, 1280]⟩
abbrev S1280 : Shape := ⟨1, ![1280]⟩
abbrev S_ : Shape := ⟨0, ![]⟩
abbrev S30x2048 : Shape := ⟨2, ![30, 2048]⟩
abbrev S30x2048x1 : Shape := ⟨3, ![30, 2048, 1]⟩
abbrev S1x1x1280 : Shape := ⟨3, ![1, 1, 1280]⟩
abbrev S30x2048x10x128 : Shape := ⟨4, ![30, 2048, 10, 128]⟩
abbrev S30x2048x10 : Shape := ⟨3, ![30, 2048, 10]⟩
abbrev S30x2048x10x1 : Shape := ⟨4, ![30, 2048, 10, 1]⟩

abbrev nBuf : Space → Nat
  | .hbm => 61
  | .vmem => 2
  | .smem => 0
  | _ => 0

abbrev bufTy : (tb : Table) → Fin (tcTables nBuf tb) → BufTy
  | .hbm, ⟨0, _⟩ => ⟨S30x2048x1280, .bf16⟩
  | .hbm, ⟨1, _⟩ => ⟨S1280, .bf16⟩
  | .hbm, ⟨2, _⟩ => ⟨S30x2048x1280, .f32⟩
  | .hbm, ⟨3, _⟩ => ⟨S30x2048x1280, .f32⟩
  | .hbm, ⟨4, _⟩ => ⟨S_, .f32⟩
  | .hbm, ⟨5, _⟩ => ⟨S30x2048, .f32⟩
  | .hbm, ⟨6, _⟩ => ⟨S30x2048x1, .f32⟩
  | .hbm, ⟨7, _⟩ => ⟨S_, .f32⟩
  | .hbm, ⟨8, _⟩ => ⟨S30x2048x1, .f32⟩
  | .hbm, ⟨9, _⟩ => ⟨S30x2048x1, .f32⟩
  | .hbm, ⟨10, _⟩ => ⟨S_, .f32⟩
  | .hbm, ⟨11, _⟩ => ⟨S30x2048x1, .f32⟩
  | .hbm, ⟨12, _⟩ => ⟨S30x2048x1, .f32⟩
  | .hbm, ⟨13, _⟩ => ⟨S30x2048x1, .f32⟩
  | .hbm, ⟨14, _⟩ => ⟨S30x2048x1280, .f32⟩
  | .hbm, ⟨15, _⟩ => ⟨S30x2048x1280, .f32⟩
  | .hbm, ⟨16, _⟩ => ⟨S1280, .f32⟩
  | .hbm, ⟨17, _⟩ => ⟨S1x1x1280, .f32⟩
  | .hbm, ⟨18, _⟩ => ⟨S30x2048x1280, .f32⟩
  | .hbm, ⟨19, _⟩ => ⟨S30x2048x1280, .f32⟩
  | .hbm, ⟨20, _⟩ => ⟨S30x2048x10x128, .f32⟩
  | .hbm, ⟨21, _⟩ => ⟨S30x2048x10x128, .f32⟩
  | .hbm, ⟨22, _⟩ => ⟨S_, .f32⟩
  | .hbm, ⟨23, _⟩ => ⟨S30x2048x10, .f32⟩
  | .hbm, ⟨24, _⟩ => ⟨S_, .f32⟩
  | .hbm, ⟨25, _⟩ => ⟨S30x2048x10, .f32⟩
  | .hbm, ⟨26, _⟩ => ⟨S30x2048x10, .f32⟩
  | .hbm, ⟨27, _⟩ => ⟨S_, .f32⟩
  | .hbm, ⟨28, _⟩ => ⟨S30x2048x10, .f32⟩
  | .hbm, ⟨29, _⟩ => ⟨S30x2048x10, .i1⟩
  | .hbm, ⟨30, _⟩ => ⟨S30x2048x10, .f32⟩
  | .hbm, ⟨31, _⟩ => ⟨S_, .f32⟩
  | .hbm, ⟨32, _⟩ => ⟨S_, .f32⟩
  | .hbm, ⟨33, _⟩ => ⟨S30x2048x10, .f32⟩
  | .hbm, ⟨34, _⟩ => ⟨S30x2048x10, .f32⟩
  | .hbm, ⟨35, _⟩ => ⟨S30x2048x10, .f32⟩
  | .hbm, ⟨36, _⟩ => ⟨S_, .f32⟩
  | .hbm, ⟨37, _⟩ => ⟨S30x2048x10, .f32⟩
  | .hbm, ⟨38, _⟩ => ⟨S30x2048x10, .f32⟩
  | .hbm, ⟨39, _⟩ => ⟨S_, .f32⟩
  | .hbm, ⟨40, _⟩ => ⟨S_, .f32⟩
  | .hbm, ⟨41, _⟩ => ⟨S30x2048x10, .f32⟩
  | .hbm, ⟨42, _⟩ => ⟨S30x2048x10, .f32⟩
  | .hbm, ⟨43, _⟩ => ⟨S_, .f32⟩
  | .hbm, ⟨44, _⟩ => ⟨S30x2048x10, .f32⟩
  | .hbm, ⟨45, _⟩ => ⟨S30x2048x10, .f32⟩
  | .hbm, ⟨46, _⟩ => ⟨S30x2048x10, .f32⟩
  | .hbm, ⟨47, _⟩ => ⟨S30x2048x10, .f32⟩
  | .hbm, ⟨48, _⟩ => ⟨S30x2048x10x1, .f32⟩
  | .hbm, ⟨49, _⟩ => ⟨S30x2048x10x128, .f32⟩
  | .hbm, ⟨50, _⟩ => ⟨S30x2048x10x128, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S30x2048x10x128, .f32⟩
  | .hbm, ⟨55, _⟩ => ⟨S30x2048x10x128, .f32⟩
  | .hbm, ⟨56, _⟩ => ⟨S_, .f32⟩
  | .hbm, ⟨57, _⟩ => ⟨S30x2048x10x128, .f32⟩
  | .hbm, ⟨58, _⟩ => ⟨S30x2048x10x128, .f32⟩
  | .hbm, ⟨59, _⟩ => ⟨S30x2048x1280, .f32⟩
  | .hbm, ⟨60, _⟩ => ⟨S30x2048x1280, .fp8e4m3⟩
  | .local _ .vmem, ⟨0, _⟩ => ⟨S30x2048x1280, .f32⟩
  | .local _ .vmem, ⟨1, _⟩ => ⟨S30x2048x1280, .fp8e4m3⟩
  | _, _ => ⟨S30x2048x1280, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S30x2048x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30x2048x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Block.lean ====
/-
  WHAT ONE TRIP OF THE KERNEL'S LOOP COMPUTES, named. The kernel's body handles one batch row (128 tokens of 1280 lanes) per
  trip. Here its values are definitions over the ten 128-lane column blocks of x (`xs`) and of gamma (`gs`): the reciprocal root
  mean square, the normalised block, the block's scaled maximum, the exponent found bit by bit, the scale's word, the codes,
  and the packed scales; and `trip_codes`, `trip_scales`: the pieces that one trip stores are exactly these.
-/
module

public import proofs.«01_k».proof.Proof.Gen.KernelIdeal.Loops

@[expose] public section

noncomputable section

namespace Cert.KernelIdeal.Block

open Cert.KernelIdeal Cert.KernelIdeal.Gen
open Idealize.ShloMosaic Idealize.ShloMosaic.TcCoe Idealize.ShloMosaic.Tactic

variable {F : FTy → Type} [FloatOps F]

/-! ## One batch row -/

/-- A column block of x as float32. -/
def xf (x : Vec F S1x128x128 .bf16) : FVec F S128x128 .f32 :=
  extf .f32 (shapeCast S128x128 (x : FVec F S1x128x128 .bf16) shapeCasts_S1x128x128_S128x128) bitsLt_bf16_f32

/-- The running sum of squares, one column block on. -/
def addSq (acc : FVec F S128x128 .f32) (x : Vec F S1x128x128 .bf16) : FVec F S128x128 .f32 := addf acc (mulf (xf x) (xf x))

/-- The ten blocks' squares summed lane by lane. -/
def sumSq (xs : Fin 10 → Vec F S1x128x128 .bf16) : FVec F S128x128 .f32 :=
  addSq (addSq (addSq (addSq (addSq (addSq (addSq (addSq (addSq (addSq (broadcast S128x128 (Scalar.ofBits .f32 0x00000000#32))
    (xs 0)) (xs 1)) (xs 2)) (xs 3)) (xs 4)) (xs 5)) (xs 6)) (xs 7)) (xs 8)) (xs 9)

/-- Each token's reciprocal root mean square. -/
def rs (xs : Fin 10 → Vec F S1x128x128 .bf16) : FVec F S128x1 .f32 :=
  rsqrt (addf (divf (shapeCast S128x1 (multiReduction .add [1] S128 (sumSq xs) 0x00000000#32 reduces_S128x128_S128 (.inl rfl) rfl)
    shapeCasts_S128_S128x1) (broadcast S128x1 (Scalar.ofBits .f32 0x44A00000#32))) (broadcast S128x1 (Scalar.ofBits .f32 0x358637BD#32)))

/-- A column block normalised: x times its token's reciprocal root mean square times gamma. -/
def yOf (r : FVec F S128x1 .f32) (x : Vec F S1x128x128 .bf16) (g : Vec F S1x128 .f32) : FVec F S128x128 .f32 :=
  mulf (mulf (xf x) (broadcastTo S128x128 r broadcasts_S128x1_S128x128))
    (broadcastTo S128x128 (shapeCast S1x128 (g : FVec F S1x128 .f32) shapeCasts_S1x128_S1x128) broadcasts_S1x128_S128x128)

/-- Each token's largest magnitude in the block, times 1/448. -/
def tOf (y : FVec F S128x128 .f32) : FVec F S128x1 .f32 :=
  mulf (shapeCast S128x1 (multiReduction .maximumf [1] S128 (absf y) 0xFF800000#32 reduces_S128x128_S128 (.inl rfl) rfl)
    shapeCasts_S128_S128x1) (broadcast S128x1 (Scalar.ofBits .f32 0x3B124925#32))

/-- One step of the search for the exponent field: take the bit if the float of the word with it is at most `t`. -/
def searchStep (t : FVec F S128x1 .f32) (w : IVec S128x1 32) (bit : BitVec 32) : IVec S128x1 32 :=
  select (cmpf .ole (bitcastToFloat .f32 (ori w (broadcast S128x1 bit)) : FVec F S128x1 .f32) t) (ori w (broadcast S128x1 bit)) w

/-- The exponent field of `t`, in place: bits 30 to 23, one after the other. -/
def expField (t : FVec F S128x1 .f32) : IVec S128x1 32 :=
  searchStep t (searchStep t (searchStep t (searchStep t (searchStep t (searchStep t (searchStep t (searchStep t
    (broadcast S128x1 0#32) 1073741824#32) 536870912#32) 268435456#32) 134217728#32) 67108864#32) 33554432#32) 16777216#32) 8388608#32

/-- The scale's word: the exponent field plus one, or the word of 1.0 where the field is all zeros or all ones. -/
def scaleOf (w : IVec S128x1 32) : IVec S128x1 32 :=
  select (andi (cmpi .ne w (broadcast S128x1 0#32)) (cmpi .ne w (broadcast S128x1 2139095040#32)))
    (addi w (broadcast S128x1 8388608#32)) (broadcast S128x1 1065353216#32)

/-- The block's codes: times the scale's reciprocal, clipped to ±448, cast. -/
def codesOf (y : FVec F S128x128 .f32) (sb : IVec S128x1 32) : FVec F S1x128x128 .fp8e4m3 :=
  shapeCast S1x128x128 (truncf .fp8e4m3 (minimumf (broadcast S128x128 (Scalar.ofBits .f32 0x43E00000#32))
    (maximumf (broadcast S128x128 (Scalar.ofBits .f32 0xC3E00000#32))
      (mulf y (broadcastTo S128x128 (bitcastToFloat .f32 (subi (broadcast S128x1 2130706432#32) sb) : FVec F S128x1 .f32)
        broadcasts_S128x1_S128x128)))) bitsLt_fp8e4m3_f32) shapeCasts_S128x128_S1x128x128

/-- Lane `j` of the packed scales set to the block's scale words. -/
def put (lane packed : IVec S128x128 32) (j : BitVec 32) (sb : IVec S128x1 32) : IVec S128x128 32 :=
  select (cmpi .eq lane (broadcast S128x128 j))
    (broadcastTo S128x128 (shapeCast S128x1 sb shapeCasts_S128x1_S128x1) broadcasts_S128x1_S128x128) packed

variable (xs : Fin 10 → Vec F S1x128x128 .bf16) (gs : Fin 10 → Vec F S1x128 .f32) (lane : IVec S128x128 32)

/-- Block `j` normalised. -/
def y (j : Fin 10) : FVec F S128x128 .f32 := yOf (rs xs) (xs j) (gs j)
/-- Block `j`'s scale words. -/
def sb (j : Fin 10) : IVec S128x1 32 := scaleOf (expField (tOf (y xs gs j)))
/-- Block `j`'s codes. -/
def codes (j : Fin 10) : FVec F S1x128x128 .fp8e4m3 := codesOf (y xs gs j) (sb xs gs j)
/-- The ten blocks' scale words in lanes 0 to 9. -/
def packed : IVec S128x128 32 :=
  put lane (put lane (put lane (put lane (put lane (put lane (put lane (put lane (put lane (put lane (broadcast S128x128 1065353216#32)
    0#32 (sb xs gs 0)) 1#32 (sb xs gs 1)) 2#32 (sb xs gs 2)) 3#32 (sb xs gs 3)) 4#32 (sb xs gs 4)) 5#32 (sb xs gs 5)) 6#32 (sb xs gs 6))
    7#32 (sb xs gs 7)) 8#32 (sb xs gs 8)) 9#32 (sb xs gs 9)
/-- The packed scales as floats, transposed: row `j` is block `j`'s scales by token. -/
def scalesT : FVec F S128x128 .f32 :=
  transpose S128x128 [1, 0] (bitcastToFloat .f32 (packed xs gs lane) : FVec F S128x128 .f32) transposes_S128x128_p1_0_S128x128
/-- One row of it, as stored. -/
def row (o : Fin 2 → ℕ) (h : S128x128.Slices o S1x128) : FVec F S1x1x128 .f32 :=
  shapeCast S1x1x128 (extractStridedSlice S1x128 o (scalesT xs gs lane) h) shapeCasts_S1x128_S1x1x128

/-! ## The loads of a trip -/

section Trip
variable (i : grid0.Coords) (arg2 : Memref sig .tc .vmem S8x128x1280 .bf16) (arg3 : Memref sig .tc .vmem S1x1280 .f32)
  (X2 : BufTy.Contents (Elt F) arg2.view.ty) (X3 : BufTy.Contents (Elt F) arg3.view.ty) (k : Fin (k0_t1_loop i).trips)

/-- Column block `j` of batch row `k`, as the trip loads it. -/
def xload (i : grid0.Coords) (arg2 : Memref sig .tc .vmem S8x128x1280 .bf16) (X2 : BufTy.Contents (Elt F) arg2.view.ty) (k : Fin (k0_t1_loop i).trips) : Fin 10 → Vec F S1x128x128 .bf16
  | 0 => View.readAt (Elt F) arg2.view (Rect.unit (s := S8x128x1280) (k0_off1 i k) S1x128x128.size (k0_off1_inb i k)).toLoadRect X2
  | 1 => View.readAt (Elt F) arg2.view (Rect.unit (s := S8x128x1280) (k0_off2 i k) S1x128x128.size (k0_off2_inb i k)).toLoadRect X2
  | 2 => View.readAt (Elt F) arg2.view (Rect.unit (s := S8x128x1280) (k0_off3 i k) S1x128x128.size (k0_off3_inb i k)).toLoadRect X2
  | 3 => View.readAt (Elt F) arg2.view (Rect.unit (s := S8x128x1280) (k0_off4 i k) S1x128x128.size (k0_off4_inb i k)).toLoadRect X2
  | 4 => View.readAt (Elt F) arg2.view (Rect.unit (s := S8x128x1280) (k0_off5 i k) S1x128x128.size (k0_off5_inb i k)).toLoadRect X2
  | 5 => View.readAt (Elt F) arg2.view (Rect.unit (s := S8x128x1280) (k0_off6 i k) S1x128x128.size (k0_off6_inb i k)).toLoadRect X2
  | 6 => View.readAt (Elt F) arg2.view (Rect.unit (s := S8x128x1280) (k0_off7 i k) S1x128x128.size (k0_off7_inb i k)).toLoadRect X2
  | 7 => View.readAt (Elt F) arg2.view (Rect.unit (s := S8x128x1280) (k0_off8 i k) S1x128x128.size (k0_off8_inb i k)).toLoadRect X2
  | 8 => View.readAt (Elt F) arg2.view (Rect.unit (s := S8x128x1280) (k0_off9 i k) S1x128x128.size (k0_off9_inb i k)).toLoadRect X2
  | 9 => View.readAt (Elt F) arg2.view (Rect.unit (s := S8x128x1280) (k0_off10 i k) S1x128x128.size (k0_off10_inb i k)).toLoadRect X2

/-- Column block `j` of gamma, as the trip loads it. -/
def gload (arg3 : Memref sig .tc .vmem S1x1280 .f32) (X3 : BufTy.Contents (Elt F) arg3.view.ty) : Fin 10 → Vec F S1x128 .f32
  | 0 => View.readAt (Elt F) arg3.view (Rect.unit (s := S1x1280) ![0, 0] S1x128.size inb_S1x1280_S1x128_0_0).toLoadRect X3
  | 1 => View.readAt (Elt F) arg3.view (Rect.unit (s := S1x1280) ![0, 128] S1x128.size inb_S1x1280_S1x128_0_128).toLoadRect X3
  | 2 => View.readAt (Elt F) arg3.view (Rect.unit (s := S1x1280) ![0, 256] S1x128.size inb_S1x1280_S1x128_0_256).toLoadRect X3
  | 3 => View.readAt (Elt F) arg3.view (Rect.unit (s := S1x1280) ![0, 384] S1x128.size inb_S1x1280_S1x128_0_384).toLoadRect X3
  | 4 => View.readAt (Elt F) arg3.view (Rect.unit (s := S1x1280) ![0, 512] S1x128.size inb_S1x1280_S1x128_0_512).toLoadRect X3
  | 5 => View.readAt (Elt F) arg3.view (Rect.unit (s := S1x1280) ![0, 640] S1x128.size inb_S1x1280_S1x128_0_640).toLoadRect X3
  | 6 => View.readAt (Elt F) arg3.view (Rect.unit (s := S1x1280) ![0, 768] S1x128.size inb_S1x1280_S1x128_0_768).toLoadRect X3
  | 7 => View.readAt (Elt F) arg3.view (Rect.unit (s := S1x1280) ![0, 896] S1x128.size inb_S1x1280_S1x128_0_896).toLoadRect X3
  | 8 => View.readAt (Elt F) arg3.view (Rect.unit (s := S1x1280) ![0, 1024] S1x128.size inb_S1x1280_S1x128_0_1024).toLoadRect X3
  | 9 => View.readAt (Elt F) arg3.view (Rect.unit (s := S1x1280) ![0, 1152] S1x128.size inb_S1x1280_S1x128_0_1152).toLoadRect X3

/-- The pieces a trip stores to the codes, last first. -/
def codePieces : List (View.Piece (Elt F) S8x128x1280 .fp8e4m3) :=
  [⟨Rect.unit (s := S8x128x1280) (k0_off10 i k) S1x128x128.size (k0_off10_inb i k), codes (xload i arg2 X2 k) (gload arg3 X3) 9⟩,
   ⟨Rect.unit (s := S8x128x1280) (k0_off9 i k) S1x128x128.size (k0_off9_inb i k), codes (xload i arg2 X2 k) (gload arg3 X3) 8⟩,
   ⟨Rect.unit (s := S8x128x1280) (k0_off8 i k) S1x128x128.size (k0_off8_inb i k), codes (xload i arg2 X2 k) (gload arg3 X3) 7⟩,
   ⟨Rect.unit (s := S8x128x1280) (k0_off7 i k) S1x128x128.size (k0_off7_inb i k), codes (xload i arg2 X2 k) (gload arg3 X3) 6⟩,
   ⟨Rect.unit (s := S8x128x1280) (k0_off6 i k) S1x128x128.size (k0_off6_inb i k), codes (xload i arg2 X2 k) (gload arg3 X3) 5⟩,
   ⟨Rect.unit (s := S8x128x1280) (k0_off5 i k) S1x128x128.size (k0_off5_inb i k), codes (xload i arg2 X2 k) (gload arg3 X3) 4⟩,
   ⟨Rect.unit (s := S8x128x1280) (k0_off4 i k) S1x128x128.size (k0_off4_inb i k), codes (xload i arg2 X2 k) (gload arg3 X3) 3⟩,
   ⟨Rect.unit (s := S8x128x1280) (k0_off3 i k) S1x128x128.size (k0_off3_inb i k), codes (xload i arg2 X2 k) (gload arg3 X3) 2⟩,
   ⟨Rect.unit (s := S8x128x1280) (k0_off2 i k) S1x128x128.size (k0_off2_inb i k), codes (xload i arg2 X2 k) (gload arg3 X3) 1⟩,
   ⟨Rect.unit (s := S8x128x1280) (k0_off1 i k) S1x128x128.size (k0_off1_inb i k), codes (xload i arg2 X2 k) (gload arg3 X3) 0⟩]

/-- The pieces a trip stores to the scales, last first. -/
def scalePieces : List (View.Piece (Elt F) S10x8x128 .f32) :=
  [⟨Rect.unit (s := S10x8x128) (k0_off20 i k) S1x1x128.size (k0_off20_inb i k), row (xload i arg2 X2 k) (gload arg3 X3) lane ![9, 0] slices_S128x128_o9_0_S1x128⟩,
   ⟨Rect.unit (s := S10x8x128) (k0_off19 i k) S1x1x128.size (k0_off19_inb i k), row (xload i arg2 X2 k) (gload arg3 X3) lane ![8, 0] slices_S128x128_o8_0_S1x128⟩,
   ⟨Rect.unit (s := S10x8x128) (k0_off18 i k) S1x1x128.size (k0_off18_inb i k), row (xload i arg2 X2 k) (gload arg3 X3) lane ![7, 0] slices_S128x128_o7_0_S1x128⟩,
   ⟨Rect.unit (s := S10x8x128) (k0_off17 i k) S1x1x128.size (k0_off17_inb i k), row (xload i arg2 X2 k) (gload arg3 X3) lane ![6, 0] slices_S128x128_o6_0_S1x128⟩,
   ⟨Rect.unit (s := S10x8x128) (k0_off16 i k) S1x1x128.size (k0_off16_inb i k), row (xload i arg2 X2 k) (gload arg3 X3) lane ![5, 0] slices_S128x128_o5_0_S1x128⟩,
   ⟨Rect.unit (s := S10x8x128) (k0_off15 i k) S1x1x128.size (k0_off15_inb i k), row (xload i arg2 X2 k) (gload arg3 X3) lane ![4, 0] slices_S128x128_o4_0_S1x128⟩,
   ⟨Rect.unit (s := S10x8x128) (k0_off14 i k) S1x1x128.size (k0_off14_inb i k), row (xload i arg2 X2 k) (gload arg3 X3) lane ![3, 0] slices_S128x128_o3_0_S1x128⟩,
   ⟨Rect.unit (s := S10x8x128) (k0_off13 i k) S1x1x128.size (k0_off13_inb i k), row (xload i arg2 X2 k) (gload arg3 X3) lane ![2, 0] slices_S128x128_o2_0_S1x128⟩,
   ⟨Rect.unit (s := S10x8x128) (k0_off12 i k) S1x1x128.size (k0_off12_inb i k), row (xload i arg2 X2 k) (gload arg3 X3) lane ![1, 0] slices_S128x128_o1_0_S1x128⟩,
   ⟨Rect.unit (s := S10x8x128) (k0_off11 i k) S1x1x128.size (k0_off11_inb i k), row (xload i arg2 X2 k) (gload arg3 X3) lane ![0, 0] slices_S128x128_o0_0_S1x128⟩]

variable (𝒱 : Variants) (c : Dev nD) (bd : Option 𝒱.V) (harg2 : arg2.IsWhole) (harg3 : arg3.IsWhole)
  (arg4 : Memref sig .tc .vmem S8x128x1280 .fp8e4m3) (harg4 : arg4.IsWhole) (arg5 : Memref sig .tc .vmem S10x8x128 .f32) (harg5 : arg5.IsWhole)

/-- One trip stores exactly those code pieces; -/
theorem trip_codes : (trip_k0_t1 (F := F) 𝒱 c bd i arg2 harg2 arg3 harg3 arg4 harg4 arg5 harg5 lane X2 X3 k).1
    = codePieces i arg2 arg3 X2 X3 k := by
  unfold trip_k0_t1; rfl

/-- and exactly those scale pieces. -/
theorem trip_scales : (trip_k0_t1 (F := F) 𝒱 c bd i arg2 harg2 arg3 harg3 arg4 harg4 arg5 harg5 lane X2 X3 k).2.1
    = scalePieces lane i arg2 arg3 X2 X3 k := by
  unfold trip_k0_t1; rfl

end Trip

end Cert.KernelIdeal.Block

end
-- ==== Proof.Rows.lean ====
/-
  WHAT THE BODY LEAVES IN ITS OUTPUT BLOCKS, row by row. `codeBlk` and `scaleBlk` name the codes and the scales of one grid point as
  functions of the staged blocks of x and of gamma; every trip's pieces are restrictions of them (`codes_piece`, `scales_piece`),
  and the trips before `n` cover the batch rows before `n` (`codes_cover`, `scales_cover`). So after all the trips the valid rows read
  exactly `codeBlk` and `scaleBlk` (`read_codes`, `read_scales`).
-/
module

public import proofs.«01_k».proof.Proof.Block
public import Idealize.ShloMosaic.Lib.Pointwise
public import Idealize.ShloMosaic.Lib.VecWindow
public import Idealize.ShloMosaic.Lib.Writes

@[expose] public section

noncomputable section

namespace Cert.KernelIdeal.Block

open Cert.KernelIdeal Cert.KernelIdeal.Gen
open Idealize.ShloMosaic Idealize.ShloMosaic.TcCoe Idealize.ShloMosaic.Tactic

variable {F : FTy → Type} [FloatOps F]

/-! ## The loop's count and its offsets -/

/-- The loop makes one trip per batch row inside the array: 8, or 6 at the last block. -/
theorem trips_eq (i : grid0.Coords) : (k0_t1_loop i).trips = min 8 (30 - 8 * (i 0).val) := by
  have h : (i 0).val < 4 := (i 0).isLt
  unfold k0_t1_loop
  generalize (i 0).val = n at h
  interval_cases n <;> rfl

theorem trips_le (i : grid0.Coords) : (k0_t1_loop i).trips ≤ 8 := (k0_t1_abs i).2.1

variable (i : grid0.Coords) (k : Fin (k0_t1_loop i).trips)

/-- The batch row a trip handles, inside the block. -/
def brow : Fin 8 := ⟨k.val, lt_of_lt_of_le k.isLt (trips_le i)⟩

theorem brow_val : (brow i k).val = k.val := by unfold brow; rfl

attribute [irreducible] brow

theorem koff : (Scalar.indexCast (Scf.iv 0#32 1#32 k.val)).toNat = (brow i k).val := by
  have h : k.val < 8 := lt_of_lt_of_le k.isLt (trips_le i)
  rw [brow_val]
  generalize k.val = n at h
  interval_cases n <;> rfl

theorem off1 : k0_off1 i k = ![(brow i k).val, 0, 0] := by unfold k0_off1; simp only [koff]
theorem off2 : k0_off2 i k = ![(brow i k).val, 0, 128] := by unfold k0_off2; simp only [koff]
theorem off3 : k0_off3 i k = ![(brow i k).val, 0, 256] := by unfold k0_off3; simp only [koff]
theorem off4 : k0_off4 i k = ![(brow i k).val, 0, 384] := by unfold k0_off4; simp only [koff]
theorem off5 : k0_off5 i k = ![(brow i k).val, 0, 512] := by unfold k0_off5; simp only [koff]
theorem off6 : k0_off6 i k = ![(brow i k).val, 0, 640] := by unfold k0_off6; simp only [koff]
theorem off7 : k0_off7 i k = ![(brow i k).val, 0, 768] := by unfold k0_off7; simp only [koff]
theorem off8 : k0_off8 i k = ![(brow i k).val, 0, 896] := by unfold k0_off8; simp only [koff]
theorem off9 : k0_off9 i k = ![(brow i k).val, 0, 1024] := by unfold k0_off9; simp only [koff]
theorem off10 : k0_off10 i k = ![(brow i k).val, 0, 1152] := by unfold k0_off10; simp only [koff]
theorem off11 : k0_off11 i k = ![0, (brow i k).val, 0] := by unfold k0_off11; simp only [koff]
theorem off12 : k0_off12 i k = ![1, (brow i k).val, 0] := by unfold k0_off12; simp only [koff]
theorem off13 : k0_off13 i k = ![2, (brow i k).val, 0] := by unfold k0_off13; simp only [koff]
theorem off14 : k0_off14 i k = ![3, (brow i k).val, 0] := by unfold k0_off14; simp only [koff]
theorem off15 : k0_off15 i k = ![4, (brow i k).val, 0] := by unfold k0_off15; simp only [koff]
theorem off16 : k0_off16 i k = ![5, (brow i k).val, 0] := by unfold k0_off16; simp only [koff]
theorem off17 : k0_off17 i k = ![6, (brow i k).val, 0] := by unfold k0_off17; simp only [koff]
theorem off18 : k0_off18 i k = ![7, (brow i k).val, 0] := by unfold k0_off18; simp only [koff]
theorem off19 : k0_off19 i k = ![8, (brow i k).val, 0] := by unfold k0_off19; simp only [koff]
theorem off20 : k0_off20 i k = ![9, (brow i k).val, 0] := by unfold k0_off20; simp only [koff]

/-! ## The block's values -/

/-- Lane `l` of column block `j`, as a column; -/
def col (j : Fin 10) (l : Fin 128) : Fin 1280 := ⟨128 * j.val + l.val, by omega⟩
/-- a column's block, -/
def colBlk (n : Fin 1280) : Fin 10 := ⟨n.val / 128, by omega⟩
/-- and its lane in it. -/
def colLane (n : Fin 1280) : Fin 128 := ⟨n.val % 128, by omega⟩

theorem col_blk_lane (n : Fin 1280) : col (colBlk n) (colLane n) = n :=
  Fin.ext (by show 128 * (n.val / 128) + n.val % 128 = n.val; omega)
theorem colBlk_of (n : Fin 1280) (j : Fin 10) (l : Fin 128) (h : n.val = 128 * j.val + l.val) : colBlk n = j :=
  Fin.ext (by show n.val / 128 = j.val; omega)
theorem colLane_of (n : Fin 1280) (j : Fin 10) (l : Fin 128) (h : n.val = 128 * j.val + l.val) : colLane n = l :=
  Fin.ext (by show n.val % 128 = l.val; omega)

/-- Row `j` of the packed scales' 128 rows. -/
def scaleRow (j : Fin 10) : Fin 128 := ⟨j.val, by omega⟩

/-- Batch row `k`'s column block `j` of a staged block of x; -/
def xrow (X0 : S8x128x1280.Idx → Elt F .bf16) (k : Fin 8) (j : Fin 10) : Vec F S1x128x128 .bf16 := fun t => X0 (ix3 k (t 1) (col j (t 2)))
/-- column block `j` of gamma. -/
def gcol (X1 : S1x1280.Idx → Elt F .f32) (j : Fin 10) : Vec F S1x128 .f32 := fun t => X1 (ix2 (0 : Fin 1) (col j (t 1)))

/-- The lanes' numbers. -/
abbrev lane0 : IVec S128x128 32 := iota .tc S128x128 32 [1] iota_S128x128_d1_w32

/-- The codes of a grid point, from the staged blocks; -/
def codeBlk (X0 : S8x128x1280.Idx → Elt F .bf16) (X1 : S1x1280.Idx → Elt F .f32) : S8x128x1280.Idx → Elt F .fp8e4m3 := fun q =>
  codes (xrow X0 (q 0)) (gcol X1) (colBlk (q 2)) (ix3 (0 : Fin 1) (q 1) (colLane (q 2)))
/-- its scales. -/
def scaleBlk (X0 : S8x128x1280.Idx → Elt F .bf16) (X1 : S1x1280.Idx → Elt F .f32) : S10x8x128.Idx → Elt F .f32 := fun q =>
  scalesT (xrow X0 (q 1)) (gcol X1) lane0 (ix2 (scaleRow (q 0)) (q 2))

variable (arg2 : Memref sig .tc .vmem S8x128x1280 .bf16) (arg3 : Memref sig .tc .vmem S1x1280 .f32)
  (X2 : BufTy.Contents (Elt F) arg2.view.ty) (X3 : BufTy.Contents (Elt F) arg3.view.ty)

/-- A load at row `k`, column 128·j, is that batch row's column block `j`; -/
theorem load_x (kk : Fin 8) (off : Fin 3 → ℕ) (inb : ∀ a, off a + S1x128x128.size a ≤ S8x128x1280.size a) (j : Fin 10)
    (hoff : off = ![kk.val, 0, 128 * j.val]) :
    View.readAt (Elt F) arg2.view (Rect.unit (s := S8x128x1280) off S1x128x128.size inb).toLoadRect X2
      = xrow (arg2.view.read (Elt F) X2) kk j := by
  subst hoff
  funext t
  rw [View.readAt_apply]
  unfold xrow
  congr 1
  funext a
  have h0 : (t 0).val = 0 := Nat.lt_one_iff.mp (t 0).isLt
  match a with
  | ⟨0, _⟩ => exact Fin.ext (by show kk.val + 1 * (t 0).val = kk.val; omega)
  | ⟨1, _⟩ => exact Fin.ext (by show 0 + 1 * (t 1).val = (t 1).val; omega)
  | ⟨2, _⟩ => exact Fin.ext (by show 128 * j.val + 1 * (t 2).val = 128 * j.val + (t 2).val; omega)

theorem xload_eq : xload i arg2 X2 k = xrow (arg2.view.read (Elt F) X2) (brow i k) := by
  funext j
  fin_cases j
  · exact load_x arg2 X2 (brow i k) _ _ 0 (off1 i k)
  · exact load_x arg2 X2 (brow i k) _ _ 1 (off2 i k)
  · exact load_x arg2 X2 (brow i k) _ _ 2 (off3 i k)
  · exact load_x arg2 X2 (brow i k) _ _ 3 (off4 i k)
  · exact load_x arg2 X2 (brow i k) _ _ 4 (off5 i k)
  · exact load_x arg2 X2 (brow i k) _ _ 5 (off6 i k)
  · exact load_x arg2 X2 (brow i k) _ _ 6 (off7 i k)
  · exact load_x arg2 X2 (brow i k) _ _ 7 (off8 i k)
  · exact load_x arg2 X2 (brow i k) _ _ 8 (off9 i k)
  · exact load_x arg2 X2 (brow i k) _ _ 9 (off10 i k)

/-- and a load of gamma at column 128·j its column block `j`. -/
theorem load_g (off : Fin 2 → ℕ) (inb : ∀ a, off a + S1x128.size a ≤ S1x1280.size a) (j : Fin 10) (hoff : off = ![0, 128 * j.val]) :
    View.readAt (Elt F) arg3.view (Rect.unit (s := S1x1280) off S1x128.size inb).toLoadRect X3 = gcol (arg3.view.read (Elt F) X3) j := by
  subst hoff
  funext t
  rw [View.readAt_apply]
  unfold gcol
  congr 1
  funext a
  have h0 : (t 0).val = 0 := Nat.lt_one_iff.mp (t 0).isLt
  match a with
  | ⟨0, _⟩ => exact Fin.ext (by show 0 + 1 * (t 0).val = 0; omega)
  | ⟨1, _⟩ => exact Fin.ext (by show 128 * j.val + 1 * (t 1).val = 128 * j.val + (t 1).val; omega)

theorem gload_eq : gload arg3 X3 = gcol (arg3.view.read (Elt F) X3) := by
  funext j
  fin_cases j
  · exact load_g arg3 X3 _ _ 0 rfl
  · exact load_g arg3 X3 _ _ 1 rfl
  · exact load_g arg3 X3 _ _ 2 rfl
  · exact load_g arg3 X3 _ _ 3 rfl
  · exact load_g arg3 X3 _ _ 4 rfl
  · exact load_g arg3 X3 _ _ 5 rfl
  · exact load_g arg3 X3 _ _ 6 rfl
  · exact load_g arg3 X3 _ _ 7 rfl
  · exact load_g arg3 X3 _ _ 8 rfl
  · exact load_g arg3 X3 _ _ 9 rfl

/-! ## The pieces are restrictions of the block's values -/

theorem codes_at (kk : Fin 8) (X0 : S8x128x1280.Idx → Elt F .bf16) (X1 : S1x1280.Idx → Elt F .f32) (j : Fin 10)
    (x : S1x128x128.Idx) (q : S8x128x1280.Idx) (h0 : (q 0).val = kk.val) (h1 : (q 1).val = (x 1).val)
    (h2 : (q 2).val = 128 * j.val + (x 2).val) :
    codes (xrow X0 kk) (gcol X1) j x = codeBlk X0 X1 q := by
  have e0 : q 0 = kk := Fin.ext h0
  have hx0 : (x 0).val = 0 := Nat.lt_one_iff.mp (x 0).isLt
  unfold codeBlk
  rw [e0, colBlk_of (q 2) j (x 2) h2, colLane_of (q 2) j (x 2) h2]
  congr 1
  funext a
  match a with
  | ⟨0, _⟩ => exact Fin.ext hx0
  | ⟨1, _⟩ => exact Fin.ext h1.symm
  | ⟨2, _⟩ => rfl

theorem row_apply (S : FVec F S128x128 .f32) (j : Fin 10) (h : S128x128.Slices ![j.val, 0] S1x128) (x : S1x1x128.Idx) :
    shapeCast S1x1x128 (extractStridedSlice S1x128 ![j.val, 0] S h) shapeCasts_S1x128_S1x1x128 x = S (ix2 (scaleRow j) (x 2)) := by
  pointwise []
  rfl

theorem row_at (kk : Fin 8) (X0 : S8x128x1280.Idx → Elt F .bf16) (X1 : S1x1280.Idx → Elt F .f32) (j : Fin 10)
    (h : S128x128.Slices ![j.val, 0] S1x128) (x : S1x1x128.Idx) (q : S10x8x128.Idx) (h0 : (q 0).val = j.val) (h1 : (q 1).val = kk.val)
    (h2 : (q 2).val = (x 2).val) :
    row (xrow X0 kk) (gcol X1) lane0 ![j.val, 0] h x = scaleBlk X0 X1 q := by
  have e0 : q 0 = j := Fin.ext h0
  have e1 : q 1 = kk := Fin.ext h1
  have e2 : q 2 = x 2 := Fin.ext h2
  unfold scaleBlk row
  rw [e0, e1, e2, row_apply]

/-! ## One trip's pieces -/

theorem take1 {α : Type*} {P : α → Prop} {a : α} {l : List α} (h : P a) : ∃ p ∈ a :: l, P p := ⟨a, List.mem_cons_self, h⟩
theorem skip1 {α : Type*} {P : α → Prop} {a : α} {l : List α} (h : ∃ p ∈ l, P p) : ∃ p ∈ a :: l, P p :=
  let ⟨p, hp, hP⟩ := h; ⟨p, List.mem_cons_of_mem _ hp, hP⟩

theorem codes_rect (kk : Fin 8) (X0 : S8x128x1280.Idx → Elt F .bf16) (X1 : S1x1280.Idx → Elt F .f32) (j : Fin 10) (off : Fin 3 → ℕ)
    (inb : ∀ a, off a + S1x128x128.size a ≤ S8x128x1280.size a) (hoff : off = ![kk.val, 0, 128 * j.val])
    (x : (Rect.unit (s := S8x128x1280) off S1x128x128.size inb).shape.Idx) :
    codes (xrow X0 kk) (gcol X1) j x = codeBlk X0 X1 ((Rect.unit (s := S8x128x1280) off S1x128x128.size inb).emb x) := by
  subst hoff
  have h0 : (x 0).val = 0 := Nat.lt_one_iff.mp (x 0).isLt
  refine codes_at kk _ _ j x _ ?_ ?_ ?_
  · show kk.val + 1 * (x 0).val = kk.val; omega
  · show 0 + 1 * (x 1).val = (x 1).val; omega
  · show 128 * j.val + 1 * (x 2).val = 128 * j.val + (x 2).val; omega

theorem row_rect (kk : Fin 8) (X0 : S8x128x1280.Idx → Elt F .bf16) (X1 : S1x1280.Idx → Elt F .f32) (j : Fin 10) (off : Fin 3 → ℕ)
    (inb : ∀ a, off a + S1x1x128.size a ≤ S10x8x128.size a) (hoff : off = ![j.val, kk.val, 0]) (h : S128x128.Slices ![j.val, 0] S1x128)
    (x : (Rect.unit (s := S10x8x128) off S1x1x128.size inb).shape.Idx) :
    row (xrow X0 kk) (gcol X1) lane0 ![j.val, 0] h x = scaleBlk X0 X1 ((Rect.unit (s := S10x8x128) off S1x1x128.size inb).emb x) := by
  subst hoff
  have h0 : (x 0).val = 0 := Nat.lt_one_iff.mp (x 0).isLt
  have h1 : (x 1).val = 0 := Nat.lt_one_iff.mp (x 1).isLt
  refine row_at kk _ _ j h x _ ?_ ?_ ?_
  · show j.val + 1 * (x 0).val = j.val; omega
  · show kk.val + 1 * (x 1).val = kk.val; omega
  · show 0 + 1 * (x 2).val = (x 2).val; omega

theorem codes_mem (kk : Fin 8) (q : S8x128x1280.Idx) (hq : (q 0).val = kk.val) (j : ℕ) (off : Fin 3 → ℕ)
    (inb : ∀ a, off a + S1x128x128.size a ≤ S8x128x1280.size a) (hoff : off = ![kk.val, 0, 128 * j]) (hj : (q 2).val / 128 = j) :
    q ∈ (Rect.unit (s := S8x128x1280) off S1x128x128.size inb).set := by
  have h1 : (q 1).val < 128 := (q 1).isLt
  subst hoff
  rw [Rect.mem_set_unit]
  intro a
  match a with
  | ⟨0, _⟩ => exact ⟨le_of_eq hq.symm, by show (q 0).val < kk.val + 1; omega⟩
  | ⟨1, _⟩ => exact ⟨Nat.zero_le _, by show (q 1).val < 0 + 128; omega⟩
  | ⟨2, _⟩ => exact ⟨by show 128 * j ≤ (q 2).val; omega, by show (q 2).val < 128 * j + 128; omega⟩

theorem row_mem (kk : Fin 8) (q : S10x8x128.Idx) (hq : (q 1).val = kk.val) (j : ℕ) (off : Fin 3 → ℕ)
    (inb : ∀ a, off a + S1x1x128.size a ≤ S10x8x128.size a) (hoff : off = ![j, kk.val, 0]) (hj : (q 0).val = j) :
    q ∈ (Rect.unit (s := S10x8x128) off S1x1x128.size inb).set := by
  have h2 : (q 2).val < 128 := (q 2).isLt
  subst hoff
  rw [Rect.mem_set_unit]
  intro a
  match a with
  | ⟨0, _⟩ => exact ⟨by show j ≤ (q 0).val; omega, by show (q 0).val < j + 1; omega⟩
  | ⟨1, _⟩ => exact ⟨by show kk.val ≤ (q 1).val; omega, by show (q 1).val < kk.val + 1; omega⟩
  | ⟨2, _⟩ => exact ⟨Nat.zero_le _, by show (q 2).val < 0 + 128; omega⟩

/-- A trip's code pieces are restrictions of the block's codes. -/
theorem codePieces_eq : ∀ p ∈ codePieces i arg2 arg3 X2 X3 k, ∀ x : p.1.shape.Idx,
    p.2 x = codeBlk (arg2.view.read (Elt F) X2) (arg3.view.read (Elt F) X3) (p.1.emb x) := by
  have key := codes_rect (brow i k) (arg2.view.read (Elt F) X2) (arg3.view.read (Elt F) X3)
  rw [← xload_eq, ← gload_eq] at key
  unfold codePieces
  refine List.forall_mem_cons.mpr ⟨key 9 _ (k0_off10_inb i k) (off10 i k), List.forall_mem_cons.mpr ⟨key 8 _ (k0_off9_inb i k) (off9 i k),
    List.forall_mem_cons.mpr ⟨key 7 _ (k0_off8_inb i k) (off8 i k), List.forall_mem_cons.mpr ⟨key 6 _ (k0_off7_inb i k) (off7 i k),
    List.forall_mem_cons.mpr ⟨key 5 _ (k0_off6_inb i k) (off6 i k), List.forall_mem_cons.mpr ⟨key 4 _ (k0_off5_inb i k) (off5 i k),
    List.forall_mem_cons.mpr ⟨key 3 _ (k0_off4_inb i k) (off4 i k), List.forall_mem_cons.mpr ⟨key 2 _ (k0_off3_inb i k) (off3 i k),
    List.forall_mem_cons.mpr ⟨key 1 _ (k0_off2_inb i k) (off2 i k), List.forall_mem_cons.mpr ⟨key 0 _ (k0_off1_inb i k) (off1 i k), ?_⟩⟩⟩⟩⟩⟩⟩⟩⟩⟩
  exact fun p hp => absurd hp List.not_mem_nil

/-- A trip's scale pieces are restrictions of the block's scales. -/
theorem scalePieces_eq : ∀ p ∈ scalePieces lane0 i arg2 arg3 X2 X3 k, ∀ x : p.1.shape.Idx,
    p.2 x = scaleBlk (arg2.view.read (Elt F) X2) (arg3.view.read (Elt F) X3) (p.1.emb x) := by
  have key := row_rect (brow i k) (arg2.view.read (Elt F) X2) (arg3.view.read (Elt F) X3)
  rw [← xload_eq, ← gload_eq] at key
  unfold scalePieces
  refine List.forall_mem_cons.mpr ⟨key 9 _ (k0_off20_inb i k) (off20 i k) slices_S128x128_o9_0_S1x128, List.forall_mem_cons.mpr ⟨key 8 _ (k0_off19_inb i k) (off19 i k) slices_S128x128_o8_0_S1x128,
    List.forall_mem_cons.mpr ⟨key 7 _ (k0_off18_inb i k) (off18 i k) slices_S128x128_o7_0_S1x128, List.forall_mem_cons.mpr ⟨key 6 _ (k0_off17_inb i k) (off17 i k) slices_S128x128_o6_0_S1x128,
    List.forall_mem_cons.mpr ⟨key 5 _ (k0_off16_inb i k) (off16 i k) slices_S128x128_o5_0_S1x128, List.forall_mem_cons.mpr ⟨key 4 _ (k0_off15_inb i k) (off15 i k) slices_S128x128_o4_0_S1x128,
    List.forall_mem_cons.mpr ⟨key 3 _ (k0_off14_inb i k) (off14 i k) slices_S128x128_o3_0_S1x128, List.forall_mem_cons.mpr ⟨key 2 _ (k0_off13_inb i k) (off13 i k) slices_S128x128_o2_0_S1x128,
    List.forall_mem_cons.mpr ⟨key 1 _ (k0_off12_inb i k) (off12 i k) slices_S128x128_o1_0_S1x128, List.forall_mem_cons.mpr ⟨key 0 _ (k0_off11_inb i k) (off11 i k) slices_S128x128_o0_0_S1x128, ?_⟩⟩⟩⟩⟩⟩⟩⟩⟩⟩
  exact fun p hp => absurd hp List.not_mem_nil

/-- The trip's code pieces cover its batch row; -/
theorem codePieces_cover (q : S8x128x1280.Idx) (hq : (q 0).val = (brow i k).val) :
    ∃ p ∈ codePieces i arg2 arg3 X2 X3 k, q ∈ p.1.set := by
  have h2 : (q 2).val < 1280 := (q 2).isLt
  have key := codes_mem (brow i k) q hq
  unfold codePieces
  have hd : (q 2).val / 128 < 10 := by omega
  generalize hn : (q 2).val / 128 = n at hd
  interval_cases n
  · exact skip1 (skip1 (skip1 (skip1 (skip1 (skip1 (skip1 (skip1 (skip1 (take1 (key 0 _ (k0_off1_inb i k) (off1 i k) hn))))))))))
  · exact skip1 (skip1 (skip1 (skip1 (skip1 (skip1 (skip1 (skip1 (take1 (key 1 _ (k0_off2_inb i k) (off2 i k) hn)))))))))
  · exact skip1 (skip1 (skip1 (skip1 (skip1 (skip1 (skip1 (take1 (key 2 _ (k0_off3_inb i k) (off3 i k) hn))))))))
  · exact skip1 (skip1 (skip1 (skip1 (skip1 (skip1 (take1 (key 3 _ (k0_off4_inb i k) (off4 i k) hn)))))))
  · exact skip1 (skip1 (skip1 (skip1 (skip1 (take1 (key 4 _ (k0_off5_inb i k) (off5 i k) hn))))))
  · exact skip1 (skip1 (skip1 (skip1 (take1 (key 5 _ (k0_off6_inb i k) (off6 i k) hn)))))
  · exact skip1 (skip1 (skip1 (take1 (key 6 _ (k0_off7_inb i k) (off7 i k) hn))))
  · exact skip1 (skip1 (take1 (key 7 _ (k0_off8_inb i k) (off8 i k) hn)))
  · exact skip1 (take1 (key 8 _ (k0_off9_inb i k) (off9 i k) hn))
  · exact take1 (key 9 _ (k0_off10_inb i k) (off10 i k) hn)

/-- and its scale pieces cover that row's scales. -/
theorem scalePieces_cover (q : S10x8x128.Idx) (hq : (q 1).val = (brow i k).val) :
    ∃ p ∈ scalePieces lane0 i arg2 arg3 X2 X3 k, q ∈ p.1.set := by
  have key := row_mem (brow i k) q hq
  unfold scalePieces
  have hd : (q 0).val < 10 := (q 0).isLt
  generalize hn : (q 0).val = n at hd
  interval_cases n
  · exact skip1 (skip1 (skip1 (skip1 (skip1 (skip1 (skip1 (skip1 (skip1 (take1 (key 0 _ (k0_off11_inb i k) (off11 i k) hn))))))))))
  · exact skip1 (skip1 (skip1 (skip1 (skip1 (skip1 (skip1 (skip1 (take1 (key 1 _ (k0_off12_inb i k) (off12 i k) hn)))))))))
  · exact skip1 (skip1 (skip1 (skip1 (skip1 (skip1 (skip1 (take1 (key 2 _ (k0_off13_inb i k) (off13 i k) hn))))))))
  · exact skip1 (skip1 (skip1 (skip1 (skip1 (skip1 (take1 (key 3 _ (k0_off14_inb i k) (off14 i k) hn)))))))
  · exact skip1 (skip1 (skip1 (skip1 (skip1 (take1 (key 4 _ (k0_off15_inb i k) (off15 i k) hn))))))
  · exact skip1 (skip1 (skip1 (skip1 (take1 (key 5 _ (k0_off16_inb i k) (off16 i k) hn)))))
  · exact skip1 (skip1 (skip1 (take1 (key 6 _ (k0_off17_inb i k) (off17 i k) hn))))
  · exact skip1 (skip1 (take1 (key 7 _ (k0_off18_inb i k) (off18 i k) hn)))
  · exact skip1 (take1 (key 8 _ (k0_off19_inb i k) (off19 i k) hn))
  · exact take1 (key 9 _ (k0_off20_inb i k) (off20 i k) hn)

/-! ## All the trips -/

section All
variable (𝒱 : Variants) (c : Dev nD) (bd : Option 𝒱.V) (harg2 : arg2.IsWhole) (harg3 : arg3.IsWhole)
  (arg4 : Memref sig .tc .vmem S8x128x1280 .fp8e4m3) (harg4 : arg4.IsWhole) (arg5 : Memref sig .tc .vmem S10x8x128 .f32) (harg5 : arg5.IsWhole)

/-- The trips before `n` store restrictions of the block's codes and scales, and cover the batch rows before `n`. -/
theorem trips_pieces (n : ℕ) (hn : n ≤ (k0_t1_loop i).trips) :
    ((∀ p ∈ (pb_k0_t1 (F := F) 𝒱 c bd i arg2 harg2 arg3 harg3 arg4 harg4 arg5 harg5 lane0 X2 X3 n).1, ∀ x : p.1.shape.Idx, p.2 x = codeBlk (arg2.view.read (Elt F) X2) (arg3.view.read (Elt F) X3) (p.1.emb x))
      ∧ (∀ q : S8x128x1280.Idx, (q 0).val < n → ∃ p ∈ (pb_k0_t1 (F := F) 𝒱 c bd i arg2 harg2 arg3 harg3 arg4 harg4 arg5 harg5 lane0 X2 X3 n).1, q ∈ p.1.set))
    ∧ ((∀ p ∈ (pb_k0_t1 (F := F) 𝒱 c bd i arg2 harg2 arg3 harg3 arg4 harg4 arg5 harg5 lane0 X2 X3 n).2, ∀ x : p.1.shape.Idx, p.2 x = scaleBlk (arg2.view.read (Elt F) X2) (arg3.view.read (Elt F) X3) (p.1.emb x))
      ∧ (∀ q : S10x8x128.Idx, (q 1).val < n → ∃ p ∈ (pb_k0_t1 (F := F) 𝒱 c bd i arg2 harg2 arg3 harg3 arg4 harg4 arg5 harg5 lane0 X2 X3 n).2, q ∈ p.1.set)) := by
  induction n with
  | zero =>
    exact ⟨⟨fun p hp => absurd hp List.not_mem_nil, fun q hq => absurd hq (Nat.not_lt_zero _)⟩,
      ⟨fun p hp => absurd hp List.not_mem_nil, fun q hq => absurd hq (Nat.not_lt_zero _)⟩⟩
  | succ n ih =>
    obtain ⟨⟨ih1, ih2⟩, ih3, ih4⟩ := ih (by omega)
    have hs := pb_k0_t1_succ (F := F) 𝒱 c bd i arg2 harg2 arg3 harg3 arg4 harg4 arg5 harg5 lane0 X2 X3 ⟨n, hn⟩
    have hb : (brow i ⟨n, hn⟩).val = n := brow_val i ⟨n, hn⟩
    have hs1 : (pb_k0_t1 (F := F) 𝒱 c bd i arg2 harg2 arg3 harg3 arg4 harg4 arg5 harg5 lane0 X2 X3 (n + 1)).1 = codePieces i arg2 arg3 X2 X3 ⟨n, hn⟩ ++ (pb_k0_t1 (F := F) 𝒱 c bd i arg2 harg2 arg3 harg3 arg4 harg4 arg5 harg5 lane0 X2 X3 n).1 := by
      rw [← trip_codes lane0 i arg2 arg3 X2 X3 ⟨n, hn⟩ 𝒱 c bd harg2 harg3 arg4 harg4 arg5 harg5]
      exact congrArg Prod.fst hs
    have hs2 : (pb_k0_t1 (F := F) 𝒱 c bd i arg2 harg2 arg3 harg3 arg4 harg4 arg5 harg5 lane0 X2 X3 (n + 1)).2 = scalePieces lane0 i arg2 arg3 X2 X3 ⟨n, hn⟩ ++ (pb_k0_t1 (F := F) 𝒱 c bd i arg2 harg2 arg3 harg3 arg4 harg4 arg5 harg5 lane0 X2 X3 n).2 := by
      rw [← trip_scales lane0 i arg2 arg3 X2 X3 ⟨n, hn⟩ 𝒱 c bd harg2 harg3 arg4 harg4 arg5 harg5]
      exact congrArg Prod.snd hs
    rw [hs1, hs2]
    refine ⟨⟨fun p hp => ?_, fun q hq => ?_⟩, fun p hp => ?_, fun q hq => ?_⟩
    · rcases List.mem_append.mp hp with h | h
      · exact codePieces_eq i ⟨n, hn⟩ arg2 arg3 X2 X3 p h
      · exact ih1 p h
    · rcases Nat.lt_succ_iff_lt_or_eq.mp hq with h | h
      · obtain ⟨p, hp, hq⟩ := ih2 q h
        exact ⟨p, List.mem_append_right _ hp, hq⟩
      · obtain ⟨p, hp, hq⟩ := codePieces_cover i ⟨n, hn⟩ arg2 arg3 X2 X3 q (h.trans hb.symm)
        exact ⟨p, List.mem_append_left _ hp, hq⟩
    · rcases List.mem_append.mp hp with h | h
      · exact scalePieces_eq i ⟨n, hn⟩ arg2 arg3 X2 X3 p h
      · exact ih3 p h
    · rcases Nat.lt_succ_iff_lt_or_eq.mp hq with h | h
      · obtain ⟨p, hp, hq⟩ := ih4 q h
        exact ⟨p, List.mem_append_right _ hp, hq⟩
      · obtain ⟨p, hp, hq⟩ := scalePieces_cover i ⟨n, hn⟩ arg2 arg3 X2 X3 q (h.trans hb.symm)
        exact ⟨p, List.mem_append_left _ hp, hq⟩

/-- After the loop, the codes of a valid batch row are the block's; -/
theorem read_codes (f : BufTy.Contents (Elt F) arg4.view.ty) (q : S8x128x1280.Idx) (hq : (q 0).val < (k0_t1_loop i).trips) :
    arg4.view.read (Elt F) (arg4.view.writes (Elt F) f (pb_k0_t1 (F := F) 𝒱 c bd i arg2 harg2 arg3 harg3 arg4 harg4 arg5 harg5 lane0 X2 X3 (k0_t1_loop i).trips).1) q
      = codeBlk (arg2.view.read (Elt F) X2) (arg3.view.read (Elt F) X3) q := by
  obtain ⟨⟨h1, h2⟩, -⟩ := trips_pieces i arg2 arg3 X2 X3 𝒱 c bd harg2 harg3 arg4 harg4 arg5 harg5 _ le_rfl
  exact View.read_writes_apply_of_pieces _ _ _ _ h1 q (h2 q hq)

/-- and so are its scales. -/
theorem read_scales (f : BufTy.Contents (Elt F) arg5.view.ty) (q : S10x8x128.Idx) (hq : (q 1).val < (k0_t1_loop i).trips) :
    arg5.view.read (Elt F) (arg5.view.writes (Elt F) f (pb_k0_t1 (F := F) 𝒱 c bd i arg2 harg2 arg3 harg3 arg4 harg4 arg5 harg5 lane0 X2 X3 (k0_t1_loop i).trips).2) q
      = scaleBlk (arg2.view.read (Elt F) X2) (arg3.view.read (Elt F) X3) q := by
  obtain ⟨-, h1, h2⟩ := trips_pieces i arg2 arg3 X2 X3 𝒱 c bd harg2 harg3 arg4 harg4 arg5 harg5 _ le_rfl
  exact View.read_writes_apply_of_pieces _ _ _ _ h1 q (h2 q hq)

end All

end Cert.KernelIdeal.Block

end
-- ==== Proof.Body.lean ====
/-
  THE KERNEL BODY AT ONE GRID POINT: from staging buffers holding any blocks `X0` of x, `X1` of gamma, and any contents in the two
  output buffers, it leaves the inputs as they were, and in the outputs, on the batch rows inside the array, the block's codes and
  scales (Rows.lean `codeBlk`, `scaleBlk`).
-/
module

public import proofs.«01_k».proof.Proof.Rows
public import proofs.«01_k».proof.Proof.Gen.KernelIdeal.Frame
public import Idealize.ShloMosaic.Lib.LoopRemainder

@[expose] public section

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's variants: none. -/
abbrev 𝒱₀ : Variants := Variants.none

theorem sound_body (c : Dev nD) (E : Set ℕ) (i : grid0.Coords)
    (arg2 : Memref sig .tc .vmem S8x128x1280 .bf16) (harg2 : arg2.IsWhole) (arg3 : Memref sig .tc .vmem S1x1280 .f32) (harg3 : arg3.IsWhole)
    (arg4 : Memref sig .tc .vmem S8x128x1280 .fp8e4m3) (harg4 : arg4.IsWhole) (arg5 : Memref sig .tc .vmem S10x8x128 .f32) (harg5 : arg5.IsWhole)
    (X0 : S8x128x1280.Idx → Elt F .bf16) (X1 : S1x1280.Idx → Elt F .f32) (X2 : S8x128x1280.Idx → Elt F .fp8e4m3) (X3 : S10x8x128.Idx → Elt F .f32)
    (K : PUnit → sProp 𝕄) :
    iprop((owns (c : Thread nD τ) arg2 fullShare X0 ∗ owns (c : Thread nD τ) arg3 fullShare X1
            ∗ owns (c : Thread nD τ) arg4 fullShare X2 ∗ owns (c : Thread nD τ) arg5 fullShare X3)
          ∗ (∀ Y2, ∀ Y3, ⌜(∀ q : S8x128x1280.Idx, (q 0).val < (k0_t1_loop i).trips → Y2 q = codeBlk X0 X1 q)
                  ∧ (∀ q : S10x8x128.Idx, (q 1).val < (k0_t1_loop i).trips → Y3 q = scaleBlk X0 X1 q)⌝
                -∗ iprop(owns (c : Thread nD τ) arg2 fullShare X0 ∗ owns (c : Thread nD τ) arg3 fullShare X1
                  ∗ owns (c : Thread nD τ) arg4 fullShare Y2 ∗ owns (c : Thread nD τ) arg5 fullShare Y3) -∗ K ⟨⟩))
      ⊢ wp frame (wpE (defs₀ (F := F)) 𝒱₀ (c : Thread nD τ) none) E (cc0_rmsnorm_fp8 i arg2 harg2 arg3 harg3 arg4 harg4 arg5 harg5) K := by
  rw [cc0_rmsnorm_fp8_eq_skeleton]
  unfold cc0_rmsnorm_fp8_skel owns
  iintro ⟨⟨⟨%f0, %hf0, H0⟩, ⟨%f1, %hf1, H1⟩, ⟨%f2, %hf2, H2⟩, ⟨%f3, %hf3, H3⟩⟩, Hk⟩
  sl_exec
  sl_step
  iapply Hk
  rotate_left 1
  · isplitl [H0]
    · iexists f0; isplitr; · ipureintro; exact hf0
      iexact H0
    isplitl [H1]
    · iexists f1; isplitr; · ipureintro; exact hf1
      iexact H1
    isplitl [H2]
    · iexists (arg4.view.writes (Elt F) f2 (pb_k0_t1 (F := F) 𝒱₀ c none i arg2 harg2 arg3 harg3 arg4 harg4 arg5 harg5
        lane0 f0 f1 (k0_t1_loop i).trips).1); isplitr; · ipureintro; exact rfl
      iexact H2
    · iexists (arg5.view.writes (Elt F) f3 (pb_k0_t1 (F := F) 𝒱₀ c none i arg2 harg2 arg3 harg3 arg4 harg4 arg5 harg5
        lane0 f0 f1 (k0_t1_loop i).trips).2); isplitr; · ipureintro; exact rfl
      iexact H3
  ipureintro
  subst hf0 hf1
  exact ⟨fun q hq => read_codes i arg2 arg3 f0 f1 𝒱₀ c none harg2 harg3 arg4 harg4 arg5 harg5 f2 q hq,
    fun q hq => read_scales i arg2 arg3 f0 f1 𝒱₀ c none harg2 harg3 arg4 harg4 arg5 harg5 f3 q hq⟩

end Cert.KernelIdeal.Block

end
-- ==== Proof.Geometry.lean ====
/-
  WHERE THE BLOCKS LIE. The grid is 4 × 16: point (b, s) stages batch rows 8·b … 8·b+7 (cut at 30) and tokens 128·s … 128·s+127 of x,
  and writes the same block of the codes and of the scales. This module says so index by index: `stage_x` reads the staged block
  of x off the array, `tile_codes` and `tile_scales` say that what the body leaves on the rows inside the array is the block of one whole-array
  function (`codeArr`, `scaleArr`), and `cover_codes` / `cover_scales` that every index of the two results lies in some point's block.
-/
module

public import proofs.«01_k».proof.Proof.Body

@[expose] public section

noncomputable section

namespace Cert.KernelIdeal.Block

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]

/-! ## Tokens and batch rows -/

/-- Token `r` of the `s`-th 128-token tile; -/
def tok (s : Fin 16) (r : Fin 128) : Fin 2048 := ⟨128 * s.val + r.val, by omega⟩
/-- a token's tile, -/
def tokBlk (n : Fin 2048) : Fin 16 := ⟨n.val / 128, by omega⟩
/-- and its place in it. -/
def tokLane (n : Fin 2048) : Fin 128 := ⟨n.val % 128, by omega⟩

theorem tok_blk_lane (n : Fin 2048) : tok (tokBlk n) (tokLane n) = n :=
  Fin.ext (by show 128 * (n.val / 128) + n.val % 128 = n.val; omega)
theorem tokBlk_tok (s : Fin 16) (r : Fin 128) : tokBlk (tok s r) = s :=
  Fin.ext (by show (128 * s.val + r.val) / 128 = s.val; omega)
theorem tokLane_tok (s : Fin 16) (r : Fin 128) : tokLane (tok s r) = r :=
  Fin.ext (by show (128 * s.val + r.val) % 128 = r.val; omega)

/-- Column block `j` of the 128 tokens of tile `s` of batch row `b`. -/
def xtile (A : S30x2048x1280.Idx → Elt F .bf16) (b : Fin 30) (s : Fin 16) (j : Fin 10) : Vec F S1x128x128 .bf16 :=
  fun t => A (ix3 b (tok s (t 1)) (col j (t 2)))

/-- The codes of the whole array; -/
def codeArr (A : S30x2048x1280.Idx → Elt F .bf16) (g : S1x1280.Idx → Elt F .f32) : S30x2048x1280.Idx → Elt F .fp8e4m3 := fun q =>
  codes (xtile A (q 0) (tokBlk (q 1))) (gcol g) (colBlk (q 2)) (ix3 (0 : Fin 1) (tokLane (q 1)) (colLane (q 2)))
/-- its scales, column block first. -/
def scaleArr (A : S30x2048x1280.Idx → Elt F .bf16) (g : S1x1280.Idx → Elt F .f32) : S10x30x2048.Idx → Elt F .f32 := fun q =>
  scalesT (xtile A (q 1) (tokBlk (q 2))) (gcol g) lane0 (ix2 (scaleRow (q 0)) (tokLane (q 2)))

/-! ## The grid's coordinates and the cuts -/

/-- A point's batch block and token tile. -/
abbrev gb (t : Fin grid0.N) : Fin 4 := grid0.coords t 0
abbrev gs (t : Fin grid0.N) : Fin 16 := grid0.coords t 1

theorem gb_nat (t : Fin grid0.N) : (BitVec.ofNat 32 (grid0.coords t 0).val).toNat = (gb t).val := by
  have h : (gb t).val < 4 := (gb t).isLt
  show (BitVec.ofNat 32 (gb t).val).toNat = (gb t).val
  rw [BitVec.toNat_ofNat]; omega
theorem gs_nat (t : Fin grid0.N) : (BitVec.ofNat 32 (grid0.coords t 1).val).toNat = (gs t).val := by
  have h : (gs t).val < 16 := (gs t).isLt
  show (BitVec.ofNat 32 (gs t).val).toNat = (gs t).val
  rw [BitVec.toNat_ofNat]; omega

/-- How much of a batch block lies inside the array: the trips of the loop. -/
theorem cut_batch (t : Fin grid0.N) :
    (Pipeline.Clip.of (BitVec.ofNat 32 (grid0.coords t 0).val).toNat 8 30).extent 8 = (k0_t1_loop (grid0.coords t)).trips := by
  have h : (gb t).val < 4 := (gb t).isLt
  rw [trips_eq]
  show (Pipeline.Clip.of (BitVec.ofNat 32 (gb t).val).toNat 8 30).extent 8 = min 8 (30 - 8 * (gb t).val)
  generalize (gb t).val = n at h
  interval_cases n <;> rfl
/-- Token tiles are never cut, -/
theorem cut_token (t : Fin grid0.N) :
    (Pipeline.Clip.of (BitVec.ofNat 32 (grid0.coords t 1).val).toNat 128 2048).extent 128 = 128 := by
  have h : (gs t).val < 16 := (gs t).isLt
  show (Pipeline.Clip.of (BitVec.ofNat 32 (gs t).val).toNat 128 2048).extent 128 = 128
  generalize (gs t).val = n at h
  interval_cases n <;> rfl
/-- nor columns, -/
theorem cut_col : (Pipeline.Clip.of (0#32).toNat 1280 1280).extent 1280 = 1280 := rfl
/-- nor column blocks. -/
theorem cut_blk : (Pipeline.Clip.of (0#32).toNat 10 10).extent 10 = 10 := rfl

/-- The number of batch rows of point `t`'s block that lie inside the array: the trips its loop makes. -/
def nrows (t : Fin grid0.N) : ℕ := (k0_t1_loop (grid0.coords t)).trips

theorem nrows_eq (t : Fin grid0.N) : (k0_t1_loop (grid0.coords t)).trips = nrows t := by unfold nrows; rfl

attribute [irreducible] nrows

theorem nrows_le (t : Fin grid0.N) : nrows t ≤ 8 := by rw [← nrows_eq]; exact trips_le _
theorem cut_rows (t : Fin grid0.N) : (Pipeline.Clip.of (BitVec.ofNat 32 (grid0.coords t 0).val).toNat 8 30).extent 8 = nrows t :=
  (cut_batch t).trans (nrows_eq t)

theorem gb_trips (t : Fin grid0.N) (k : ℕ) (hk : k < nrows t) : 8 * (gb t).val + k < 30 := by
  rw [← nrows_eq, trips_eq] at hk
  have : k < min 8 (30 - 8 * (gb t).val) := hk
  omega

/-- Batch row `k` of point `t`'s block, in the array. -/
def arow (t : Fin grid0.N) (k : ℕ) (hk : k < nrows t) : Fin 30 := ⟨8 * (gb t).val + k, gb_trips t k hk⟩

/-! ## The staged blocks -/

theorem at8 {b n : ℕ} (k : ℕ) (h : b = n) : b * 8 + 1 * k = 8 * n + k := by omega
theorem at128 {b n : ℕ} (k : ℕ) (h : b = n) : b * 128 + 1 * k = 128 * n + k := by omega
theorem at0 (c k : ℕ) : 0 * c + 1 * k = k := by omega

/-- The staged block of x, whatever fills it past the array's end, is the array's block on the rows the trips handle. -/
theorem stage_x (t : Fin grid0.N) (A : S30x2048x1280.Idx → Elt F .bf16) (d : S8x128x1280.Idx → Elt F .bf16) (k : Fin 8)
    (hk : k.val < nrows t) :
    xrow (win0_0.fill (grid0.coords t) d ((win0_0.blk t).view.read (Elt F) A)) k = xtile A (arow t k.val hk) (gs t) := by
  funext j l
  unfold xrow xtile Pipeline.Window.fill
  have hm : win0_0.moved (grid0.coords t) (ix3 k (l 1) (col j (l 2))) = true := by
    rw [Pipeline.Window.moved_iff]
    intro a
    match a with
    | ⟨0, _⟩ => exact lt_of_lt_of_eq hk (cut_rows t).symm
    | ⟨1, _⟩ => exact lt_of_lt_of_eq (l 1).isLt (cut_token t).symm
    | ⟨2, _⟩ => exact lt_of_lt_of_eq (col j (l 2)).isLt cut_col.symm
  rw [dif_pos hm]
  show A _ = A _
  congr 1
  funext a
  match a with
  | ⟨0, _⟩ => exact Fin.ext (at8 _ (gb_nat t))
  | ⟨1, _⟩ => exact Fin.ext (at128 _ (gs_nat t))
  | ⟨2, _⟩ => exact Fin.ext (at0 1280 _)

/-- Gamma's staged block is all of it. -/
theorem stage_g (t : Fin grid0.N) (g : S1x1280.Idx → Elt F .f32) : (win0_1.blk t).view.read (Elt F) g = g := by
  funext l
  show g _ = g _
  congr 1
  funext a
  match a with
  | ⟨0, _⟩ => exact Fin.ext (at0 1 _)
  | ⟨1, _⟩ => exact Fin.ext (at0 1280 _)

/-! ## The written blocks -/

/-- Where an index of the codes' block at point `t` lies in the array. -/
theorem emb_codes (t : Fin grid0.N) (q : (win0_2.xblock (grid0.coords t)).Idx) (hk : (q 0).val < nrows t)
    (h1 : (q 1).val < 128) (h2 : (q 2).val < 1280) (G : S30x2048x1280.Idx → Elt F .fp8e4m3) :
    (win0_2.blk t).view.read (Elt F) G q = G (ix3 (arow t (q 0).val hk) (tok (gs t) ⟨(q 1).val, h1⟩) ⟨(q 2).val, h2⟩) := by
  show G _ = G _
  congr 1
  funext a
  match a with
  | ⟨0, _⟩ => exact Fin.ext (at8 _ (gb_nat t))
  | ⟨1, _⟩ => exact Fin.ext (at128 _ (gs_nat t))
  | ⟨2, _⟩ => exact Fin.ext (at0 1280 _)

/-- Where an index of the scales' block at point `t` lies in the array. -/
theorem emb_scales (t : Fin grid0.N) (q : (win0_3.xblock (grid0.coords t)).Idx) (hk : (q 1).val < nrows t)
    (h0 : (q 0).val < 10) (h2 : (q 2).val < 128) (G : S10x30x2048.Idx → Elt F .f32) :
    (win0_3.blk t).view.read (Elt F) G q = G (ix3 ⟨(q 0).val, h0⟩ (arow t (q 1).val hk) (tok (gs t) ⟨(q 2).val, h2⟩)) := by
  show G _ = G _
  congr 1
  funext a
  match a with
  | ⟨0, _⟩ => exact Fin.ext (at0 10 _)
  | ⟨1, _⟩ => exact Fin.ext (at8 _ (gb_nat t))
  | ⟨2, _⟩ => exact Fin.ext (at128 _ (gs_nat t))

/-- Contents that are `codeBlk` of the staged blocks on the trips' rows are, inside the array, the block of `codeArr`; -/
theorem tile_codes (t : Fin grid0.N) (A : S30x2048x1280.Idx → Elt F .bf16) (g : S1x1280.Idx → Elt F .f32)
    (d : S8x128x1280.Idx → Elt F .bf16) (Y : S8x128x1280.Idx → Elt F .fp8e4m3)
    (hY : ∀ q : S8x128x1280.Idx, (q 0).val < nrows t
      → Y q = codeBlk (win0_0.fill (grid0.coords t) d ((win0_0.blk t).view.read (Elt F) A)) g q) :
    win0_2.cut (grid0.coords t) Y = (win0_2.blk t).view.read (Elt F) (codeArr A g) := by
  funext q
  have hk : (q 0).val < nrows t := lt_of_lt_of_eq (q 0).isLt (cut_rows t)
  have h1 : (q 1).val < 128 := lt_of_lt_of_eq (q 1).isLt (cut_token t)
  have h2 : (q 2).val < 1280 := lt_of_lt_of_eq (q 2).isLt cut_col
  rw [emb_codes t q hk h1 h2]
  have e : win0_2.cut (grid0.coords t) Y q = Y (ix3 ⟨(q 0).val, lt_of_lt_of_le hk (nrows_le t)⟩ ⟨(q 1).val, h1⟩ ⟨(q 2).val, h2⟩) := by
    show Y _ = Y _
    congr 1
    funext a
    match a with
    | ⟨0, _⟩ => rfl
    | ⟨1, _⟩ => rfl
    | ⟨2, _⟩ => rfl
  rw [e, hY _ hk]
  unfold codeBlk codeArr
  simp only [ix3_0, ix3_1, ix3_2, tokBlk_tok, tokLane_tok]
  rw [stage_x t A d ⟨(q 0).val, lt_of_lt_of_le hk (nrows_le t)⟩ hk]

/-- and likewise the scales. -/
theorem tile_scales (t : Fin grid0.N) (A : S30x2048x1280.Idx → Elt F .bf16) (g : S1x1280.Idx → Elt F .f32)
    (d : S8x128x1280.Idx → Elt F .bf16) (Y : S10x8x128.Idx → Elt F .f32)
    (hY : ∀ q : S10x8x128.Idx, (q 1).val < nrows t
      → Y q = scaleBlk (win0_0.fill (grid0.coords t) d ((win0_0.blk t).view.read (Elt F) A)) g q) :
    win0_3.cut (grid0.coords t) Y = (win0_3.blk t).view.read (Elt F) (scaleArr A g) := by
  funext q
  have hk : (q 1).val < nrows t := lt_of_lt_of_eq (q 1).isLt (cut_rows t)
  have h0 : (q 0).val < 10 := lt_of_lt_of_eq (q 0).isLt cut_blk
  have h2 : (q 2).val < 128 := lt_of_lt_of_eq (q 2).isLt (cut_token t)
  rw [emb_scales t q hk h0 h2]
  have e : win0_3.cut (grid0.coords t) Y q = Y (ix3 ⟨(q 0).val, h0⟩ ⟨(q 1).val, lt_of_lt_of_le hk (nrows_le t)⟩ ⟨(q 2).val, h2⟩) := by
    show Y _ = Y _
    congr 1
    funext a
    match a with
    | ⟨0, _⟩ => rfl
    | ⟨1, _⟩ => rfl
    | ⟨2, _⟩ => rfl
  rw [e, hY _ hk]
  unfold scaleBlk scaleArr
  simp only [ix3_0, ix3_1, ix3_2, tokBlk_tok, tokLane_tok]
  rw [stage_x t A d ⟨(q 1).val, lt_of_lt_of_le hk (nrows_le t)⟩ hk]

end Cert.KernelIdeal.Block

end
-- ==== Proof.Run.lean ====
/-
  THE RUN of the kernel's program: from any memory with zero counters, at any floats, it ends with its two arguments unchanged, every counter at
  zero, the codes at `codeArr` and the scales at `scaleArr` of the region's two inputs (`final_codes`, `final_scales`). `frame` is the frame claim's post alone.
-/
module

public import proofs.«01_k».proof.Proof.Geometry
public import Idealize.ShloMosaic.Lib.Pipeline.ValueKit.Geometry
public import Idealize.ShloMosaic.Lib.Claim

@[expose] public section

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- x as the region finds it; -/
def xArr (c : Dev nD) : S30x2048x1280.Idx → Elt F .bf16 := V m c main_arg0
/-- gamma, as a row of f32. -/
def gArr (c : Dev nD) : S1x1280.Idx → Elt F .f32 := V m c main_v1

/-- The proof data: the arrays as the region finds them; after the body at point `t` x's and gamma's buffers hold their blocks and the
    outputs' the blocks of `codeArr` and `scaleArr`, each on the rows inside the array. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .bf16 0#16) ((win0_0.blk t).view.read (Elt F) (xArr m c))
    | ⟨1, _⟩ => iblk m c 1 t
    | ⟨2, _⟩ => win0_2.fill (grid0.coords t) (fun _ => Scalar.ofBits .fp8e4m3 0#8) ((win0_2.blk t).view.read (Elt F) (codeArr (xArr m c) (gArr m c)))
    | ⟨3, _⟩ => win0_3.fill (grid0.coords t) (fun _ => Scalar.ofBits .f32 0#32) ((win0_3.blk t).view.read (Elt F) (scaleArr (xArr m c) (gArr m c)))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t
    = win0_0.fill (grid0.coords t) (fun _ => Scalar.ofBits .bf16 0#16) ((win0_0.blk t).view.read (Elt F) (xArr m c)) := by dsimp only [dats]
theorem after_1 (c : Dev nD) (t : Fin cfg0.N) : (dats m 0 c).after 1 t = iblk m c 1 t := by dsimp only [dats]
theorem after_2 (c : Dev nD) (t : Fin cfg0.N) : (dats m 0 c).after 2 t
    = win0_2.fill (grid0.coords t) (fun _ => Scalar.ofBits .fp8e4m3 0#8) ((win0_2.blk t).view.read (Elt F) (codeArr (xArr m c) (gArr m c))) := by
  dsimp only [dats]
theorem after_3 (c : Dev nD) (t : Fin cfg0.N) : (dats m 0 c).after 3 t
    = win0_3.fill (grid0.coords t) (fun _ => Scalar.ofBits .f32 0#32) ((win0_3.blk t).view.read (Elt F) (scaleArr (xArr m c) (gArr m c))) := by
  dsimp only [dats]

/-- x's buffer arrives holding its block, anything past the array's end; -/
theorem before_0 (c : Dev nD) (t : Fin cfg0.N) (d) : (dats m 0 c).before (0 : Fin 4) t d
    = win0_0.fill (grid0.coords t) d ((win0_0.blk t).view.read (Elt F) (xArr m c)) := by
  unfold Dat.before; rw [if_pos (fetch0_0 t)]; rfl
/-- gamma's holding gamma. -/
theorem before_1 (c : Dev nD) (t : Fin cfg0.N) (d) : (dats m 0 c).before (1 : Fin 4) t d = gArr m c :=
  (before0_1_of m (dats m 0 c) (A_eq m c 1) (after_1 m c) t d).trans (stage_g t _)

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The library's body obligation, from `sound_body` at the point's staging buffers. -/
theorem body_obligation (c : Dev nD) : BodyObligationLoose (dats m 0 c) (defs₀ (F := F)) 𝒱₀ () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1]
  unfold bodyAt0
  iapply (sound_body (F := F) c Set.univ (grid0.coords t) _ _ _ _ _ _ _ _
    (win0_0.fill (grid0.coords t) d0 ((win0_0.blk t).view.read (Elt F) (xArr m c))) (gArr m c) _ _ _)
  isplitl [H0 H1 H2 H3]
  · isplitl [H0]
    · iexact H0
    isplitl [H1]
    · iexact H1
    isplitl [H2]
    · iexact H2
    · iexact H3
  iintro %Y2 %Y3 %hY ⟨H0, H1, H2, H3⟩
  isplitl [HΦ]; · iexact HΦ
  isplitl [Ho]; · iexact Ho
  have hx : win0_0.cut (grid0.coords t) ((dats m 0 c).after 0 t) = (win0_0.blk t).view.read (Elt F) (xArr m c) := by
    rw [after_0]; exact win0_0.cut_fill _ _ _
  have h2 : win0_2.fill (grid0.coords t) Y2 (win0_2.cut (grid0.coords t) ((dats m 0 c).after 2 t)) = Y2 := by
    apply win0_2.fill_congr_cut
    rw [after_2]
    exact (tile_codes t _ _ d0 Y2 fun q hq => hY.1 q (lt_of_lt_of_eq hq (nrows_eq t).symm)).trans (win0_2.cut_fill _ _ _).symm
  have h3 : win0_3.fill (grid0.coords t) Y3 (win0_3.cut (grid0.coords t) ((dats m 0 c).after 3 t)) = Y3 := by
    apply win0_3.fill_congr_cut
    rw [after_3]
    exact (tile_scales t _ _ d0 Y3 fun q hq => hY.2 q (lt_of_lt_of_eq hq (nrows_eq t).symm)).trans (win0_3.cut_fill _ _ _).symm
  isplitl [H0]
  · iexists d0
    change _ ⊢ owns (c : Thread nD τ) (stage0_0 (cfg0.slots t 0)) fullShare (win0_0.fill (grid0.coords t) d0 (win0_0.cut (grid0.coords t) ((dats m 0 c).after 0 t)))
    rw [hx]; try iexact H0
  isplitl [H1]
  · rw [after_1]
    rw [show iblk m c 1 t = gArr m c from stage_g t _]
    iexact H1
  isplitl [H2]
  · iexists Y2
    change _ ⊢ owns (c : Thread nD τ) (stage0_2 (cfg0.slots t 2)) fullShare (win0_2.fill (grid0.coords t) Y2 (win0_2.cut (grid0.coords t) ((dats m 0 c).after 2 t)))
    rw [h2]; try iexact H2
  · iexists Y3
    change _ ⊢ owns (c : Thread nD τ) (stage0_3 (cfg0.slots t 3)) fullShare (win0_3.fill (grid0.coords t) Y3 (win0_3.cut (grid0.coords t) ((dats m 0 c).after 3 t)))
    rw [h3]; try iexact H3

set_option backward.isDefEq.respectTransparency.types false in
set_option maxHeartbeats 800000 in
/-- The launch: every array of the pipeline ends at what the library computes from the proof data, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ 𝒱₀ m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := A_eq m) (hΦ := fun _ _ => rfl) (Q' := _)

/-- The codes' array after the run; -/
theorem final_codes (c : Dev nD) : (dats m 0 c).arrAt 2 cfg0.N = codeArr (xArr m c) (gArr m c) :=
  (dats m 0 c).arrAt_eq_of_cover 2 _
    (fun t _ => by
      show win0_2.cut (grid0.coords t) ((dats m 0 c).after 2 t) = _
      rw [after_2]; exact win0_2.cut_fill _ _ _)
    (Pipeline.Window.Covers.cover win0_2 (by decide +kernel) (Memref.isWhole_whole _))
/-- the scales'. -/
theorem final_scales (c : Dev nD) : (dats m 0 c).arrAt 3 cfg0.N = scaleArr (xArr m c) (gArr m c) :=
  (dats m 0 c).arrAt_eq_of_cover 3 _
    (fun t _ => by
      show win0_3.cut (grid0.coords t) ((dats m 0 c).after 3 t) = _
      rw [after_3]; exact win0_3.cut_fill _ _ _)
    (Pipeline.Window.Covers.cover win0_3 (by decide +kernel) (Memref.isWhole_whole _))

/-- The arguments end unchanged. -/
theorem unchanged : θ_run defs (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)) :=
  frame_of m ρ (dats m) (A_eq m) ((θ_run defs _ _).mono (fun _ h => h.1) (run_main m ρ))

/-- THE FRAME: the arguments end unchanged and every counter at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  θ_run_and (unchanged m ρ) ((θ_run defs _ _).mono (fun _ h => h.2) (run_main m ρ))

end Cert.KernelIdeal.Block

end
-- ==== Proof.Machine.lean ====
/-
  THE KERNEL ON THE MACHINE'S FLOATS. The program read on bits (`Cert.Kernel`) and the one read over the reals (`Cert.KernelIdeal`) are the same program
  text at two readings of the floats (`body_same`, `defs_same`: nothing was rewritten), and Run.lean's run is stated at any floats; so the frame of
  the first is that run at the machine's floats.
-/
module

public import proofs.«01_k».proof.Proof.Run
public import proofs.«01_k».proof.Defs
public import proofs.«01_k».proof.Proof.Gen.Kernel

@[expose] public section

noncomputable section

namespace Cert.Kernel.Machine

open Idealize.ShloMosaic Idealize.ShloMosaic.TcCoe Idealize.SL Idealize.SL.Sem

variable {F : FTy → Type} [FloatOps F]

/-- The two printed bodies are one program. -/
theorem body_same (i) (a2) (h2) (a3) (h3) (a4) (h4) (a5) (h5) :
    Cert.Kernel.cc0_rmsnorm_fp8 (F := F) i a2 h2 a3 h3 a4 h4 a5 h5 = Cert.KernelIdeal.cc0_rmsnorm_fp8 (F := F) i a2 h2 a3 h3 a4 h4 a5 h5 := by
  with_unfolding_all rfl

/-- So are the kernels' tables, -/
theorem defs₀_same : Cert.Kernel.defs₀ (F := F) = Cert.KernelIdeal.defs₀ (F := F) := by
  unfold Cert.Kernel.defs₀ Cert.KernelIdeal.defs₀
  congr 1
  funext l a
  match l, a with
  | 0, (t, s) => exact body_same ..

/-- the programs' tables, -/
theorem defs_same : Cert.Kernel.defs (F := F) = Cert.KernelIdeal.defs (F := F) := by
  unfold Cert.Kernel.defs Cert.KernelIdeal.defs
  rw [defs₀_same]
  rfl

/-- and the programs. -/
theorem main_same : Cert.Kernel.main (F := F) = Cert.KernelIdeal.main (F := F) := rfl

/-- THE FRAME on the machine's floats. -/
theorem frame : Cert.quiescent_Kernel (hKernel := Cert.Kernel.Gen.facts) := fun m ρ _ => by
  rw [defs_same, main_same]
  exact Cert.KernelIdeal.Block.frame (F := Bits) m ρ

end Cert.Kernel.Machine

end
-- ==== Proof.KernelRun.lean ====
/-
  THE VALUES AFTER THE RUN of the kernel's program, at any floats: the two results as arrays of the region's inputs, and those inputs as
  the launch's arguments.
-/
module

public import proofs.«01_k».proof.Proof.Run

@[expose] public section

noncomputable section

namespace Cert.KernelIdeal.Block

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The four windows' arrays are four buffers. -/
theorem arrays_inj : Function.Injective (Pipeline.arrRef spec0) :=
  (by decide : ∀ a b : Fin 4, Pipeline.arrRef spec0 a = Pipeline.arrRef spec0 b → a = b)

/-- The region finds x as launched, -/
theorem xArr_eq (c : Dev nD) : xArr m c = m ((c : Thread nD τ).loc main_arg0) := V_main_arg0 m c
/-- and gamma's extension, as a row. -/
theorem gArr_eq (c : Dev nD) : gArr m c
    = shapeCast S1x1280 (extf .f32 (m ((c : Thread nD τ).loc main_arg1) : FVec F S1280 .bf16) bitsLt_bf16_f32) shapeCasts_S1280_S1x1280 := by
  unfold gArr V V0
  simp only [List.flatten_cons, List.flatten_nil, List.append_nil]
  after_results
  rfl

/-- The run's values: the codes are `codeArr`, the scales the transpose of `scaleArr`. -/
theorem run_values : θ_run defs (onTc (τ := τ) (main (F := F))) ⟨m, fun _ => 0, ρ⟩ (fun r => ∀ c : Dev nD,
      r.2.mem ((c : Thread nD τ).loc main_v2_0) = codeArr (xArr m c) (gArr m c)
      ∧ r.2.mem ((c : Thread nD τ).loc main_v3) = transpose S30x2048x10 [1, 2, 0] (scaleArr (xArr m c) (gArr m c)) transposes_S10x30x2048_S30x2048x10_1_2_0
      ∧ r.2.mem ((c : Thread nD τ).loc main_arg0) = m ((c : Thread nD τ).loc main_arg0)
      ∧ r.2.mem ((c : Thread nD τ).loc main_arg1) = m ((c : Thread nD τ).loc main_arg1)) := by
  refine (θ_run defs _ _).mono (fun r h c => ?_) (θ_run_and (run_main m ρ) (unchanged m ρ))
  obtain ⟨⟨hp, -⟩, hu⟩ := h
  refine ⟨((hp c).1 2).trans (final_codes m c), ?_, hu c⟩
  refine ((hp c).2 main_v3 (Pipeline.mem_restRefs_of main_v3 (by decide) (by decide))).trans ?_
  unfold Pipeline.afterTail₀
  simp only [List.flatten_cons, List.flatten_nil, List.append_nil]
  after_results
  exact congrArg (fun a => transpose S30x2048x10 [1, 2, 0] a transposes_S10x30x2048_S30x2048x10_1_2_0)
    ((Pipeline.withArrays_arr spec0 arrays_inj c (V0 m c) _ 3).trans (final_scales m c))

end Cert.KernelIdeal.Block

end
-- ==== Proof.Exponent.lean ====
/-
  THE EXPONENT FOUND BIT BY BIT IS THE LOGARITHM'S FLOOR, over the extended reals. The kernel finds the exponent field of a scaled
  block maximum `t` by trying its bits from the top, and takes the word one binade up for the block's scale; the reference takes
  `2 ^ (⌊log t / log 2⌋ + 1)`, and 1 below the least normal float. `scale_word` and `inv_word` say that these are equal, and their
  reciprocals too, for `0 ≤ t < 2 ^ 126`.
-/
module

public import Idealize.ShloMosaic.PureOps.Ideal.Laws

@[expose] public section

noncomputable section

namespace Cert.Exponent

open Idealize.ShloMosaic

/-- The float32 word of exponent field `n` and no fraction. -/
def word (n : ℕ) : BitVec 32 := BitVec.ofNat 32 (n * 8388608)

/-- What that word denotes. -/
def val (n : ℕ) : EReal := Ideal.ofBits .f32 (word n)

theorem word_fields : ∀ n < 256, ((word n).extractLsb' 31 1 == 1#1) = false ∧ ((word n).extractLsb' 23 8).toNat = n
    ∧ ((word n).extractLsb' 0 23).toNat = 0 := by decide +kernel

theorem word_or : ∀ k < 8, ∀ m < 256, m % 2 ^ (k + 1) = 0 → word m ||| word (2 ^ k) = word (m + 2 ^ k) := by decide +kernel

theorem word_up : ∀ n < 253, 1 ≤ n → word n ≠ 0#32 ∧ word n ≠ 2139095040#32 ∧ word n + 8388608#32 = word (n + 1)
    ∧ 2130706432#32 - word (n + 1) = word (253 - n) := by decide +kernel

theorem val_zero : val 0 = 0 := by simp [val, word]

theorem val_top : val 255 = ⊤ := by
  obtain ⟨h1, h2, h3⟩ := word_fields 255 (by norm_num)
  simp only [val, Ideal.ofBits, Ideal.ieee]
  simp only [Nat.reduceAdd] at *
  rw [h1, h2, h3]; simp

theorem val_normal (n : ℕ) (h0 : 1 ≤ n) (h : n ≤ 254) : val n = (((2 : ℝ) ^ ((n : ℤ) - 127) : ℝ) : EReal) := by
  obtain ⟨h1, h2, h3⟩ := word_fields n (by omega)
  simp only [val, Ideal.ofBits, Ideal.ieee]
  simp only [Nat.reduceAdd] at *
  rw [h1, h2, h3]
  rw [if_neg (by omega), if_neg (by omega)]
  congr 1
  have : (2 : ℝ) ^ ((n : ℤ) - 127) = (2 : ℝ) ^ (23 : ℕ) * (2 : ℝ) ^ ((n : ℤ) - 127 - 23) := by
    rw [← zpow_natCast, ← zpow_add₀ (by norm_num)]; congr 1; push_cast; ring
  rw [this]; norm_num

theorem val_lt {n : ℕ} (h : n < 255) : val n < val (n + 1) := by
  rcases Nat.eq_zero_or_pos n with rfl | h0
  · rw [val_zero, val_normal 1 le_rfl (by norm_num)]; exact_mod_cast (by positivity : (0 : ℝ) < (2 : ℝ) ^ (((1 : ℕ) : ℤ) - 127))
  · rw [val_normal n h0 (by omega)]
    rcases Nat.lt_or_ge n 254 with h' | h'
    · rw [val_normal (n + 1) (by omega) (by omega)]
      exact_mod_cast zpow_lt_zpow_right₀ (by norm_num : (1 : ℝ) < 2) (show (n : ℤ) - 127 < ((n + 1 : ℕ) : ℤ) - 127 by omega)
    · rw [show n + 1 = 255 by omega, val_top]; exact EReal.coe_lt_top _

theorem val_mono {m n : ℕ} (h : m ≤ n) (hn : n ≤ 255) : val m ≤ val n := by
  induction n, h using Nat.le_induction with
  | base => exact le_rfl
  | succ n h ih => exact (ih (by omega)).trans (val_lt (by omega)).le

/-- One step of the search: take the bit if the float of the word with it is at most `t`. -/
def step (t : EReal) (w bit : BitVec 32) : BitVec 32 :=
  if FloatOps.cmpf (F := Ideal) (φ := .f32) .ole (FloatOps.ofBits .f32 (w ||| bit)) t = 1#1 then w ||| bit else w

/-- The search's state before bit `k`: a word whose low bits are clear, at most `t`, and short of `t` by less than the bits left. -/
def State (t : EReal) (k : ℕ) (w : BitVec 32) : Prop :=
  ∃ m : ℕ, w = word m ∧ m + 2 ^ k ≤ 256 ∧ m % 2 ^ k = 0 ∧ val m ≤ t ∧ ∀ n, m + 2 ^ k ≤ n → n ≤ 255 → t < val n

theorem step_state {t : EReal} {k : ℕ} (hk : k < 8) {w : BitVec 32} (h : State t (k + 1) w) : State t k (step t w (word (2 ^ k))) := by
  obtain ⟨m, rfl, hm, hmod, hle, hgt⟩ := h
  have hp : 0 < 2 ^ k := Nat.two_pow_pos k
  have hps : 2 ^ (k + 1) = 2 ^ k + 2 ^ k := by rw [pow_succ]; omega
  have hmodk : m % 2 ^ k = 0 := Nat.mod_eq_zero_of_dvd ((pow_dvd_pow 2 (Nat.le_succ k)).trans (Nat.dvd_of_mod_eq_zero hmod))
  have hor := word_or k hk m (by omega) hmod
  have hc : FloatOps.cmpf (F := Ideal) (φ := .f32) .ole (FloatOps.ofBits .f32 (word (m + 2 ^ k))) t
      = BitVec.ofBool (decide (val (m + 2 ^ k) ≤ t)) := rfl
  unfold step
  rw [hor, hc]
  by_cases hle' : val (m + 2 ^ k) ≤ t
  · rw [if_pos (by simp [hle'])]
    refine ⟨m + 2 ^ k, rfl, by omega, by rw [Nat.add_mod_right]; exact hmodk, hle', fun n hn => hgt n (by omega)⟩
  · rw [if_neg (by simp [hle'])]
    exact ⟨m, rfl, by omega, hmodk, hle, fun n hn hn' => (lt_of_not_ge hle').trans_le (val_mono hn hn')⟩

/-- The exponent field of `t`, in place. -/
def field (t : EReal) : BitVec 32 :=
  step t (step t (step t (step t (step t (step t (step t (step t 0#32 1073741824#32) 536870912#32) 268435456#32) 134217728#32)
    67108864#32) 33554432#32) 16777216#32) 8388608#32

/-- The field found is the greatest whose power of two is at most `t`. -/
theorem field_state {t : EReal} (h : 0 ≤ t) : State t 0 (field t) := by
  have h8 : State t 8 0#32 := ⟨0, rfl, by norm_num, rfl, val_zero ▸ h, fun n hn hn' => by omega⟩
  exact step_state (k := 0) (by norm_num) (step_state (k := 1) (by norm_num) (step_state (k := 2) (by norm_num) (step_state (k := 3) (by norm_num)
    (step_state (k := 4) (by norm_num) (step_state (k := 5) (by norm_num) (step_state (k := 6) (by norm_num) (step_state (k := 7) (by norm_num) h8)))))))

/-- The scale's word of a field: one binade up, or the word of 1.0 where the field is all zeros or all ones. -/
def up (w : BitVec 32) : BitVec 32 := if w ≠ 0#32 ∧ w ≠ 2139095040#32 then w + 8388608#32 else 1065353216#32

/-- The reference's exponent: `⌊log t / log 2⌋ + 1`, and 0 below the least normal float. -/
def expo (t : EReal) : EReal :=
  if t < Ideal.ofBits .f32 0x00800000#32 then 0
  else Ideal.liftRound Int.floor (Ideal.div (Ideal.log t) (Ideal.log (Ideal.ofBits .f32 0x40000000#32))) + Ideal.ofBits .f32 0x3F800000#32

theorem ofBits_tiny : Ideal.ofBits .f32 0x00800000#32 = val 1 := rfl
theorem ofBits_two : Ideal.ofBits .f32 0x40000000#32 = ((2 : ℝ) : EReal) := by
  rw [show Ideal.ofBits .f32 0x40000000#32 = val 128 from rfl, val_normal 128 (by norm_num) (by norm_num)]; norm_num
theorem ofBits_one : Ideal.ofBits .f32 0x3F800000#32 = ((1 : ℝ) : EReal) := by
  rw [show Ideal.ofBits .f32 0x3F800000#32 = val 127 from rfl, val_normal 127 (by norm_num) (by norm_num)]; norm_num

theorem floor_log {t : ℝ} {a : ℤ} (h0 : (2 : ℝ) ^ a ≤ t) (h1 : t < (2 : ℝ) ^ (a + 1)) : ⌊Real.log t / Real.log 2⌋ = a := by
  have hl : 0 < Real.log 2 := Real.log_pos (by norm_num)
  have ht : 0 < t := lt_of_lt_of_le (by positivity) h0
  rw [Int.floor_eq_iff, le_div_iff₀ hl, div_lt_iff₀ hl]
  constructor
  · rw [← Real.log_zpow]; exact Real.log_le_log (by positivity) h0
  · rw [show ((a : ℝ) + 1) = ((a + 1 : ℤ) : ℝ) by push_cast; ring, ← Real.log_zpow]; exact Real.log_lt_log ht h1

/-- The words and the exponents side by side. -/
theorem both {t : EReal} (h : 0 ≤ t) (ht : t < val 253) :
    Ideal.ofBits .f32 (up (field t)) = Ideal.pow (Ideal.ofBits .f32 0x40000000#32) (expo t)
    ∧ Ideal.ofBits .f32 (2130706432#32 - up (field t)) = Ideal.pow (Ideal.ofBits .f32 0x40000000#32) (-expo t) := by
  obtain ⟨m, hw, hm, -, hle, hgt⟩ := field_state h
  have hm2 : m < 253 := by
    by_contra hc
    exact absurd (lt_of_lt_of_le ht (val_mono (not_lt.1 hc) (by omega))) (not_lt.2 hle)
  have hlt : t < val (m + 1) := hgt (m + 1) (by norm_num) (by omega)
  rw [hw, ofBits_two]
  rcases Nat.eq_zero_or_pos m with rfl | h0
  · have he : expo t = ((0 : ℝ) : EReal) := by unfold expo; rw [ofBits_tiny, if_pos hlt]; rfl
    rw [he, show up (word 0) = word 127 from rfl, show 2130706432#32 - word 127 = word 127 from rfl]
    have : Ideal.ofBits .f32 (word 127) = ((1 : ℝ) : EReal) := ofBits_one
    rw [this, ← EReal.coe_neg, Ideal.pow_coe_coe, Ideal.pow_coe_coe]
    simp
  · obtain ⟨hz, hi, hup, hinv⟩ := word_up m hm2 h0
    have hu : up (word m) = word (m + 1) := by unfold up; rw [if_pos ⟨hz, hi⟩, hup]
    rw [hu, hinv]
    rw [val_normal m h0 (by omega)] at hle
    rw [val_normal (m + 1) (by omega) (by omega)] at hlt
    lift t to ℝ using ⟨ne_top_of_lt ht, (lt_of_lt_of_le EReal.bot_lt_zero h).ne'⟩
    have hle' : (2 : ℝ) ^ ((m : ℤ) - 127) ≤ t := by exact_mod_cast hle
    have hlt' : t < (2 : ℝ) ^ ((m : ℤ) - 127 + 1) := by
      rw [show (m : ℤ) - 127 + 1 = ((m + 1 : ℕ) : ℤ) - 127 by push_cast; ring]; exact_mod_cast hlt
    have ht0 : 0 < t := lt_of_lt_of_le (by positivity) hle'
    have htiny : ¬ ((t : EReal) < Ideal.ofBits .f32 0x00800000#32) := by
      rw [ofBits_tiny, not_lt]
      refine (val_mono h0 (by omega)).trans ?_
      rw [val_normal m h0 (by omega)]; exact hle
    have he : expo (t : EReal) = (((m : ℤ) - 126 : ℤ) : ℝ) := by
      unfold expo
      rw [if_neg htiny, ofBits_two, ofBits_one, Ideal.log_coe, Ideal.log_coe, if_neg (not_le.2 ht0), if_neg (by norm_num),
        Ideal.div_coe (Real.log_pos (by norm_num)).ne', ← EReal.coe_mul, Ideal.liftRound_coe, mul_one_div, floor_log hle' hlt', ← EReal.coe_add]
      congr 1; push_cast; ring
    rw [he, ← EReal.coe_neg, Ideal.pow_coe_coe, Ideal.pow_coe_coe]
    change val (m + 1) = _ ∧ val (253 - m) = _
    rw [val_normal (m + 1) (by omega) (by omega), val_normal (253 - m) (by omega) (by omega)]
    constructor
    · congr 1; rw [Real.rpow_eq_pow, Real.rpow_intCast]; congr 1; push_cast; ring
    · congr 1; rw [Real.rpow_eq_pow, ← Int.cast_neg, Real.rpow_intCast]; congr 1; omega

end Cert.Exponent

end
-- ==== Proof.Spec.lean ====
/-
  ONE TOKEN'S RESULT, stated over the extended reals: `x` are the token's 1280 values and `g` gamma's. The normalised value, the
  scaled maximum of a 128-lane block, the block's scale and the codes. Both programs are shown to compute these.
-/
module

public import proofs.«01_k».proof.Proof.Exponent
public import proofs.«01_k».proof.Proof.Rows

@[expose] public section

noncomputable section

namespace Cert.Spec

open Idealize.ShloMosaic
open Cert.KernelIdeal.Block (col colBlk colLane)

variable (x g : Fin 1280 → EReal)

/-- The reciprocal root of the mean square plus epsilon. -/
def rs : EReal :=
  Ideal.rsqrt (Ideal.div (∑ k, x k * x k) (Ideal.ofBits .f32 0x44A00000#32) + Ideal.ofBits .f32 0x358637BD#32)
/-- The normalised value. -/
def y (k : Fin 1280) : EReal := x k * rs x * g k
/-- The block's largest magnitude times 1/448. -/
def t (j : Fin 10) : EReal :=
  (Finset.univ : Finset (Fin 128)).fold max (Ideal.ofBits .f32 0xFF800000#32) (fun l => max (y x g (col j l)) (-y x g (col j l)))
    * Ideal.ofBits .f32 0x3B124925#32
/-- The block's scale. -/
def scale (j : Fin 10) : EReal := Ideal.pow (Ideal.ofBits .f32 0x40000000#32) (Exponent.expo (t x g j))
/-- The code: the value over its block's scale, clipped to ±448. -/
def code (k : Fin 1280) : EReal :=
  min (Ideal.ofBits .f32 0x43E00000#32) (max (Ideal.ofBits .f32 0xC3E00000#32)
    (y x g k * Ideal.pow (Ideal.ofBits .f32 0x40000000#32) (-Exponent.expo (t x g (colBlk k)))))

end Cert.Spec

end
-- ==== Proof.Bound.lean ====
/-
  THE SCALED BLOCK MAXIMUM IS BELOW 2 ^ 126, when gamma is finite in bfloat16. A finite token's values are at most √1280 times its root mean
  square; a token holding an infinity has reciprocal root 0, so its normalised values are 0. So every normalised value is at most
  36 · 2 ^ 128 in magnitude, and the block maximum over 448 is nonnegative and below 2 ^ 126: the scale's exponent fits the float32 field.
-/
module

public import proofs.«01_k».proof.Proof.Spec

@[expose] public section

noncomputable section

namespace Cert.Spec

open Idealize.ShloMosaic
open Cert.KernelIdeal.Block (col colBlk colLane)

theorem c_dim : Ideal.ofBits .f32 0x44A00000#32 = ((1280 : ℝ) : EReal) := by
  have h : Ideal.ofBits .f32 0x44A00000#32 = ((10485760 * (2 : ℝ) ^ (-13 : ℤ) : ℝ) : EReal) := by simp [Ideal.ofBits, Ideal.ieee]
  rw [h]; norm_num
theorem c_eps : Ideal.ofBits .f32 0x358637BD#32 = ((8796093 * (2 : ℝ) ^ (-43 : ℤ) : ℝ) : EReal) := by
  simp [Ideal.ofBits, Ideal.ieee]
theorem c_inv : Ideal.ofBits .f32 0x3B124925#32 = ((9586981 * (2 : ℝ) ^ (-32 : ℤ) : ℝ) : EReal) := by
  simp [Ideal.ofBits, Ideal.ieee]
theorem c_gamma : Ideal.ofBits .f32 0x7F7F0000#32 = ((16711680 * (2 : ℝ) ^ (104 : ℤ) : ℝ) : EReal) := by
  simp [Ideal.ofBits, Ideal.ieee]
theorem c_bot : Ideal.ofBits .f32 0xFF800000#32 = ⊥ := by
  simp [Ideal.ofBits, Ideal.ieee]

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem sq_nonneg' (a : EReal) : 0 ≤ a * a := by
  induction a with
  | bot => simp
  | top => simp
  | coe r => rw [← EReal.coe_mul]; exact_mod_cast mul_self_nonneg r

theorem max_neg_coe (r : ℝ) : max (r : EReal) (-(r : EReal)) = ((|r| : ℝ) : EReal) := by
  rw [← EReal.coe_neg, abs_eq_max_neg]
  exact (EReal.coe_strictMono.monotone.map_max).symm

variable (x g : Fin 1280 → EReal)

/-- A token holding an infinity has reciprocal root 0. -/
theorem rs_inf (k : Fin 1280) (h : x k * x k = ⊤) : rs x = 0 := by
  have hs : ∑ k, x k * x k = ⊤ := by
    rw [eq_top_iff, ← h]
    exact Finset.single_le_sum (f := fun k => x k * x k) (fun i _ => sq_nonneg' (x i)) (Finset.mem_univ k)
  unfold rs
  rw [hs, c_dim, c_eps, Ideal.div_coe (by norm_num), EReal.top_mul_coe_of_pos (by norm_num), EReal.top_add_coe]
  rfl

/-- Every normalised value is a real number of magnitude at most 36 · 2 ^ 128. -/
theorem y_real (hg : ∀ k, max (g k) (-g k) ≤ Ideal.ofBits .f32 0x7F7F0000#32) (k : Fin 1280) :
    ∃ r : ℝ, y x g k = (r : EReal) ∧ |r| ≤ 36 * 2 ^ 128 := by
  by_cases hinf : ∃ k, x k * x k = ⊤
  · obtain ⟨k', hk'⟩ := hinf
    refine ⟨0, ?_, by norm_num⟩
    unfold y
    rw [rs_inf x k' hk']; simp
  · have hx : ∀ k, x k ≠ ⊤ ∧ x k ≠ ⊥ := fun k =>
      ⟨fun h => hinf ⟨k, by rw [h]; rfl⟩, fun h => hinf ⟨k, by rw [h]; rfl⟩⟩
    lift x to Fin 1280 → ℝ using hx
    have hgk := hg k
    rw [c_gamma, max_le_iff] at hgk
    obtain ⟨g1, g2⟩ := hgk
    have hgt : g k ≠ ⊤ := fun h => by rw [h] at g1; exact absurd g1 (not_le.2 (EReal.coe_lt_top _))
    have hgb : g k ≠ ⊥ := fun h => by rw [h, EReal.neg_bot] at g2; exact absurd g2 (not_le.2 (EReal.coe_lt_top _))
    obtain ⟨q, hq⟩ : ∃ q : ℝ, g k = (q : EReal) := ⟨(g k).toReal, (EReal.coe_toReal hgt hgb).symm⟩
    rw [hq] at g1 g2
    rw [← EReal.coe_neg] at g2
    have q1 : q ≤ 16711680 * (2 : ℝ) ^ (104 : ℤ) := by exact_mod_cast g1
    have q2 : -q ≤ 16711680 * (2 : ℝ) ^ (104 : ℤ) := by exact_mod_cast g2
    have hqa : |q| ≤ 2 ^ 128 := by
      refine (abs_le'.2 ⟨q1, q2⟩).trans ?_
      norm_num
    set S : ℝ := ∑ i, x i * x i with hS
    have hSk : x k ^ 2 ≤ S := by
      rw [hS, pow_two]; exact Finset.single_le_sum (f := fun i => x i * x i) (fun i _ => mul_self_nonneg (x i)) (Finset.mem_univ k)
    have hS0 : 0 ≤ S := (sq_nonneg (x k)).trans hSk
    set A : ℝ := S * (1 / 1280) + 8796093 * (2 : ℝ) ^ (-43 : ℤ) with hA
    have hA0 : 0 < A := by positivity
    have hrs : rs (fun i => (x i : EReal)) = (((Real.sqrt A)⁻¹ : ℝ) : EReal) := by
      unfold rs
      rw [c_dim, c_eps, Ideal.div_coe (by norm_num)]
      simp only [← EReal.coe_mul]
      rw [coe_sum, ← EReal.coe_mul, ← EReal.coe_add, Ideal.rsqrt_coe, if_neg (not_lt.2 hA0.le), if_neg hA0.ne']
    refine ⟨x k * (Real.sqrt A)⁻¹ * q, ?_, ?_⟩
    · show (x k : EReal) * rs (fun i => (x i : EReal)) * g k = _
      rw [hrs, hq, ← EReal.coe_mul, ← EReal.coe_mul]
    · have h1 : |x k| ≤ Real.sqrt (36 ^ 2 * A) := by
        apply Real.abs_le_sqrt
        have : 0 ≤ 8796093 * (2 : ℝ) ^ (-43 : ℤ) := by positivity
        rw [hA]; nlinarith
      rw [Real.sqrt_mul (by norm_num), Real.sqrt_sq (by norm_num)] at h1
      have h2 : |x k * (Real.sqrt A)⁻¹| ≤ 36 := by
        rw [abs_mul, abs_inv, abs_of_nonneg (Real.sqrt_nonneg A), ← div_eq_mul_inv, div_le_iff₀ (Real.sqrt_pos.2 hA0)]
        exact h1
      rw [abs_mul]
      exact mul_le_mul h2 hqa (abs_nonneg _) (by norm_num)

/-- The scaled block maximum's bounds. -/
theorem t_bounds (hg : ∀ k, max (g k) (-g k) ≤ Ideal.ofBits .f32 0x7F7F0000#32) (j : Fin 10) :
    0 ≤ t x g j ∧ t x g j < Exponent.val 253 := by
  have hr := y_real x g hg
  choose r hr hrb using hr
  have hf : ∀ l : Fin 128, max (y x g (col j l)) (-y x g (col j l)) = ((|r (col j l)| : ℝ) : EReal) := fun l => by
    rw [hr]; exact max_neg_coe _
  unfold t
  simp only [hf]
  rw [c_bot]
  generalize hM : (Finset.univ : Finset (Fin 128)).fold max (⊥ : EReal) (fun l => ((|r (col j l)| : ℝ) : EReal)) = M
  have h0 : (0 : EReal) ≤ M := by
    rw [← hM, Finset.le_fold_max]
    exact .inr ⟨0, Finset.mem_univ _, by exact_mod_cast abs_nonneg _⟩
  have h1 : M ≤ ((36 * 2 ^ 128 : ℝ) : EReal) := by
    rw [← hM, Finset.fold_max_le]
    exact ⟨bot_le, fun l _ => by exact_mod_cast hrb _⟩
  lift M to ℝ using ⟨ne_top_of_le_ne_top (EReal.coe_ne_top _) h1, (lt_of_lt_of_le EReal.bot_lt_zero h0).ne'⟩
  have h0' : 0 ≤ M := by exact_mod_cast h0
  have h1' : M ≤ 36 * 2 ^ 128 := by exact_mod_cast h1
  rw [c_inv, Exponent.val_normal 253 (by norm_num) (by norm_num), ← EReal.coe_mul]
  constructor
  · exact_mod_cast (by positivity : (0 : ℝ) ≤ M * (9586981 * (2 : ℝ) ^ (-32 : ℤ)))
  · rw [EReal.coe_lt_coe_iff]
    calc M * (9586981 * (2 : ℝ) ^ (-32 : ℤ)) ≤ 36 * 2 ^ 128 * (9586981 * (2 : ℝ) ^ (-32 : ℤ)) := by gcongr
      _ < _ := by norm_num

end Cert.Spec

end
-- ==== Proof.KernelValue.lean ====
/-
  THE KERNEL'S VALUES AT AN INDEX, over the extended reals: the codes and the scales that one trip computes are `Spec.code` and
  `Spec.scale` of the token's values and gamma's. The ten blocks' squares summed lane by lane and then over the lanes are the sum over
  all 1280 values; the exponent search is `Exponent.field`, taken apart by `Exponent.both` inside the bounds of `Spec.t_bounds`.
-/
module

public import proofs.«01_k».proof.Proof.Bound
public import proofs.«01_k».proof.Proof.Geometry
public import Idealize.ShloMosaic.Lib.Pointwise

@[expose] public section

noncomputable section

namespace Cert.KernelIdeal.Block

open Cert.KernelIdeal Cert.KernelIdeal.Gen
open Idealize.ShloMosaic

/-! ## The pieces at an index -/

theorem sumSq_at (xs : Fin 10 → Vec Ideal S1x128x128 .bf16) (r l : Fin 128) :
    sumSq xs (ix2 r l) = ∑ j : Fin 10, xs j (ix3 0 r l) * xs j (ix3 0 r l) := by
  pointwise [sumSq, addSq, xf]
  simp only [Fin.sum_univ_castSucc, Fin.sum_univ_zero, zero_add]
  rfl

theorem rs_at (xs : Fin 10 → Vec Ideal S1x128x128 .bf16) (r : Fin 128) : rs xs (ix2 r 0)
    = Ideal.rsqrt (Ideal.div (∑ l, sumSq xs (ix2 r l)) (Ideal.ofBits .f32 0x44A00000#32) + Ideal.ofBits .f32 0x358637BD#32) := by
  unfold rs
  pointwise []

theorem tOf_at (y : FVec Ideal S128x128 .f32) (r : Fin 128) : tOf y (ix2 r 0)
    = (Finset.univ : Finset (Fin 128)).fold max (Ideal.ofBits .f32 0xFF800000#32) (fun l => max (y (ix2 r l)) (-y (ix2 r l)))
      * Ideal.ofBits .f32 0x3B124925#32 := by
  pointwise [tOf]
  simp only [Ideal.absf_def]

theorem yOf_at (R : FVec Ideal S128x1 .f32) (x : Vec Ideal S1x128x128 .bf16) (g : Vec Ideal S1x128 .f32) (r l : Fin 128) :
    yOf R x g (ix2 r l) = x (ix3 0 r l) * R (ix2 r 0) * g (ix2 0 l) := by
  pointwise [yOf, xf]

theorem searchStep_at (t : FVec Ideal S128x1 .f32) (w : IVec S128x1 32) (bit : BitVec 32) (q : S128x1.Idx) :
    searchStep t w bit q = Exponent.step (t q) (w q) bit := rfl

theorem expField_at (t : FVec Ideal S128x1 .f32) (q : S128x1.Idx) : expField t q = Exponent.field (t q) := by
  unfold expField Exponent.field
  simp only [searchStep_at]
  rfl

theorem scaleOf_at (w : IVec S128x1 32) (q : S128x1.Idx) : scaleOf w q = Exponent.up (w q) := by
  have h : scaleOf w q = Scalar.select (IntOp.andi (IntOp.cmpi .ne (w q) 0#32) (IntOp.cmpi .ne (w q) 2139095040#32))
      (IntOp.addi (w q) 8388608#32) 1065353216#32 := rfl
  rw [h]
  unfold Exponent.up
  by_cases h1 : w q = 0#32
  · simp [Scalar.select, IntOp.andi, IntOp.cmpi, h1]
  by_cases h2 : w q = 2139095040#32
  · simp [Scalar.select, IntOp.andi, IntOp.cmpi, h2]
  have b1 : (w q != 0#32) = true := bne_iff_ne.2 h1
  have b2 : (w q != 2139095040#32) = true := bne_iff_ne.2 h2
  simp [Scalar.select, IntOp.andi, IntOp.cmpi, IntOp.addi, h1, h2, b1, b2]

theorem codesOf_at (y : FVec Ideal S128x128 .f32) (sb : IVec S128x1 32) (r l : Fin 128) : codesOf y sb (ix3 0 r l)
    = min (Ideal.ofBits .f32 0x43E00000#32) (max (Ideal.ofBits .f32 0xC3E00000#32)
        (y (ix2 r l) * Ideal.ofBits .f32 (2130706432#32 - sb (ix2 r 0)))) := by
  pointwise [codesOf]
  rfl

/-- Of ten words put in lanes 0 to 9, lane `j` holds word `j`. -/
theorem lane_word (f : Fin 10 → BitVec 32) (j : Fin 10) :
    Scalar.select (IntOp.cmpi CmpIPredicate.eq (BitVec.ofNat 32 (scaleRow j).val) 9#32) (f 9)
      (Scalar.select (IntOp.cmpi CmpIPredicate.eq (BitVec.ofNat 32 (scaleRow j).val) 8#32) (f 8)
      (Scalar.select (IntOp.cmpi CmpIPredicate.eq (BitVec.ofNat 32 (scaleRow j).val) 7#32) (f 7)
      (Scalar.select (IntOp.cmpi CmpIPredicate.eq (BitVec.ofNat 32 (scaleRow j).val) 6#32) (f 6)
      (Scalar.select (IntOp.cmpi CmpIPredicate.eq (BitVec.ofNat 32 (scaleRow j).val) 5#32) (f 5)
      (Scalar.select (IntOp.cmpi CmpIPredicate.eq (BitVec.ofNat 32 (scaleRow j).val) 4#32) (f 4)
      (Scalar.select (IntOp.cmpi CmpIPredicate.eq (BitVec.ofNat 32 (scaleRow j).val) 3#32) (f 3)
      (Scalar.select (IntOp.cmpi CmpIPredicate.eq (BitVec.ofNat 32 (scaleRow j).val) 2#32) (f 2)
      (Scalar.select (IntOp.cmpi CmpIPredicate.eq (BitVec.ofNat 32 (scaleRow j).val) 1#32) (f 1)
      (Scalar.select (IntOp.cmpi CmpIPredicate.eq (BitVec.ofNat 32 (scaleRow j).val) 0#32) (f 0) 1065353216#32))))))))) = f j := by
  fin_cases j <;> rfl

theorem scalesT_at (xs : Fin 10 → Vec Ideal S1x128x128 .bf16) (gs : Fin 10 → Vec Ideal S1x128 .f32) (r : Fin 128) (j : Fin 10) :
    scalesT xs gs lane0 (ix2 (scaleRow j) r) = Ideal.ofBits .f32 (sb xs gs j (ix2 r 0)) := by
  pointwise [scalesT, packed, put]
  exact congrArg (Ideal.ofBits .f32) (lane_word (fun j => sb xs gs j (ix2 r 0)) j)

/-! ## A token's codes and scales -/

section Token

variable (xs : Fin 10 → Vec Ideal S1x128x128 .bf16) (gs : Fin 10 → Vec Ideal S1x128 .f32) (r : Fin 128)
variable (x g : Fin 1280 → EReal) (hx : ∀ j l, xs j (ix3 0 r l) = x (col j l)) (hg : ∀ j l, gs j (ix2 0 l) = g (col j l))
include hx

/-- The sum over lanes of the blocks' sums is the sum over the row. -/
theorem sum_at : ∑ l, sumSq xs (ix2 r l) = ∑ k, x k * x k := by
  simp only [sumSq_at, hx]
  rw [← Fintype.sum_prod_type' (f := fun (l : Fin 128) (j : Fin 10) => x (col j l) * x (col j l))]
  exact Fintype.sum_equiv ⟨fun p : Fin 128 × Fin 10 => col p.2 p.1, fun k => (colLane k, colBlk k),
    fun p => Prod.ext (colLane_of _ p.2 p.1 rfl) (colBlk_of _ p.2 p.1 rfl), col_blk_lane⟩ _ _ (fun _ => rfl)

theorem rs_eq : rs xs (ix2 r 0) = Spec.rs x := by
  rw [rs_at, sum_at xs r x hx]; rfl

include hg

theorem y_eq (j : Fin 10) (l : Fin 128) : y xs gs j (ix2 r l) = Spec.y x g (col j l) := by
  unfold y
  rw [yOf_at, rs_eq xs r x hx, hx, hg]; rfl

theorem t_eq (j : Fin 10) : tOf (y xs gs j) (ix2 r 0) = Spec.t x g j := by
  rw [tOf_at]
  simp only [y_eq xs gs r x g hx hg]
  rfl

theorem sb_eq (j : Fin 10) : sb xs gs j (ix2 r 0) = Exponent.up (Exponent.field (Spec.t x g j)) := by
  unfold sb
  rw [scaleOf_at, expField_at, t_eq xs gs r x g hx hg]

variable (hb : ∀ k, max (g k) (-g k) ≤ Ideal.ofBits .f32 0x7F7F0000#32)
include hb

/-- The stored scale; -/
theorem scale_eq (j : Fin 10) : scalesT xs gs lane0 (ix2 (scaleRow j) r) = Spec.scale x g j := by
  rw [scalesT_at, sb_eq xs gs r x g hx hg]
  exact (Exponent.both (Spec.t_bounds x g hb j).1 (Spec.t_bounds x g hb j).2).1

/-- the stored code. -/
theorem code_eq (j : Fin 10) (l : Fin 128) : codes xs gs j (ix3 0 r l) = Spec.code x g (col j l) := by
  unfold codes
  rw [codesOf_at, sb_eq xs gs r x g hx hg, y_eq xs gs r x g hx hg,
    (Exponent.both (Spec.t_bounds x g hb j).1 (Spec.t_bounds x g hb j).2).2]
  unfold Spec.code
  rw [colBlk_of (col j l) j l rfl]

end Token

/-! ## The arrays -/

variable (A : S30x2048x1280.Idx → EReal) (g : S1x1280.Idx → EReal)
  (hb : ∀ k : Fin 1280, max (g (ix2 0 k)) (-g (ix2 0 k)) ≤ Ideal.ofBits .f32 0x7F7F0000#32)
include hb

theorem codeArr_at (b : Fin 30) (n : Fin 2048) (k : Fin 1280) :
    codeArr (F := Ideal) A g (ix3 b n k) = Spec.code (fun k => A (ix3 b n k)) (fun k => g (ix2 0 k)) k := by
  have h := code_eq (xtile (F := Ideal) A b (tokBlk n)) (gcol (F := Ideal) g) (tokLane n) (fun k => A (ix3 b n k)) (fun k => g (ix2 0 k))
    (fun j l => by show A (ix3 b (tok (tokBlk n) (tokLane n)) (col j l)) = _; rw [tok_blk_lane]) (fun j l => rfl) hb (colBlk k) (colLane k)
  rw [col_blk_lane] at h
  exact h

theorem scaleArr_at (b : Fin 30) (n : Fin 2048) (j : Fin 10) :
    scaleArr (F := Ideal) A g (ix3 j b n) = Spec.scale (fun k => A (ix3 b n k)) (fun k => g (ix2 0 k)) j :=
  scale_eq (xtile (F := Ideal) A b (tokBlk n)) (gcol (F := Ideal) g) (tokLane n) (fun k => A (ix3 b n k)) (fun k => g (ix2 0 k))
    (fun j l => by show A (ix3 b (tok (tokBlk n) (tokLane n)) (col j l)) = _; rw [tok_blk_lane]) (fun j l => rfl) hb j

end Cert.KernelIdeal.Block

end
-- ==== Proof.RefValue.lean ====
/-
  THE REFERENCE'S VALUES. The host operations before its kernel, read as arrays (`scales_arr`, `q_arr`), and those arrays at an index over the
  extended reals: the scales are `Spec.scale` and the values handed to the kernel, which only casts them, `Spec.code` of the token's values.
-/
module

public import proofs.«01_k».proof.Proof.Spec
public import proofs.«01_k».proof.Proof.Gen.ReferenceIdeal.Value
public import Idealize.ShloMosaic.Lib.StableHlo.RunRead
public import Idealize.ShloMosaic.Lib.IdealHost
public import Idealize.ShloMosaic.Lib.Pointwise

@[expose] public section

noncomputable section

namespace Cert.ReferenceIdeal.Value

open Cert.ReferenceIdeal Cert.ReferenceIdeal.Gen Idealize.ShloMosaic Idealize.ShloMosaic.TcCoe Idealize.SL.Sem
open Cert.KernelIdeal.Block (col colBlk colLane)

variable {F : FTy → Type} [FloatOps F]
variable (m : (ℓ : Loc nD τ sig) → Buf (Elt F) ℓ)

/-- The normalised array, in blocks of 128 lanes. -/
def yArr (A : FVec F S30x2048x1280 .bf16) (g : FVec F S1280 .bf16) : FVec F S30x2048x10x128 .f32 :=
  shapeCast S30x2048x10x128 (mulf
    (mulf (extf .f32 A bitsLt_bf16_f32) (broadcastInDim S30x2048x1280 ![0, 1, 2] bcast_S30x2048x1_S30x2048x1280_0_1_2
      (Host.rsqrt (addf (Host.divf (broadcastInDim S30x2048x1 ![0, 1] bcast_S30x2048_S30x2048x1_0_1
          (Host.reduceAdd (mulf (extf .f32 A bitsLt_bf16_f32) (extf .f32 A bitsLt_bf16_f32)) (constant S_ .f32 0x00000000#32)
            reducesTo_S30x2048x1280_S30x2048_d2 h_S_))
        (broadcastInDim S30x2048x1 ![] bcast_S_S30x2048x1 (constant S_ .f32 0x44A00000#32)))
        (broadcastInDim S30x2048x1 ![] bcast_S_S30x2048x1 (constant S_ .f32 0x358637BD#32))))))
    (broadcastInDim S30x2048x1280 ![0, 1, 2] bcast_S1x1x1280_S30x2048x1280_0_1_2
      (broadcastInDim S1x1x1280 ![2] bcast_S1280_S1x1x1280_2 (extf .f32 g bitsLt_bf16_f32)))) shapeCasts_S30x2048x1280_S30x2048x10x128

/-- The blocks' largest magnitudes times 1/448. -/
def tArr (y : FVec F S30x2048x10x128 .f32) : FVec F S30x2048x10 .f32 :=
  mulf (Host.reduce FloatOps.maximumf (Host.absf y) (constant S_ .f32 0xFF800000#32) reducesTo_S30x2048x10x128_S30x2048x10_d3 h_S_)
    (broadcastInDim S30x2048x10 ![] bcast_S_S30x2048x10 (constant S_ .f32 0x3B124925#32))

/-- The blocks' exponents. -/
def eArr (t : FVec F S30x2048x10 .f32) : FVec F S30x2048x10 .f32 :=
  select (cmpf .olt t (broadcastInDim S30x2048x10 ![] bcast_S_S30x2048x10 (constant S_ .f32 0x00800000#32)))
    (broadcastInDim S30x2048x10 ![] bcast_S_S30x2048x10 (constant S_ .f32 0x00000000#32))
    (addf (Host.floor (Host.divf (Host.log t) (broadcastInDim S30x2048x10 ![] bcast_S_S30x2048x10 (Host.log (constant S_ .f32 0x40000000#32)))))
      (broadcastInDim S30x2048x10 ![] bcast_S_S30x2048x10 (constant S_ .f32 0x3F800000#32)))

/-- Two to an exponent. -/
def powArr (e : FVec F S30x2048x10 .f32) : FVec F S30x2048x10 .f32 :=
  Host.powf (broadcastInDim S30x2048x10 ![] bcast_S_S30x2048x10 (constant S_ .f32 0x40000000#32)) e

/-- The values over their blocks' scales, clipped, in rows of 1280 lanes again. -/
def qArr (y : FVec F S30x2048x10x128 .f32) (e : FVec F S30x2048x10 .f32) : FVec F S30x2048x1280 .f32 :=
  shapeCast S30x2048x1280 (minimumf (broadcastInDim S30x2048x10x128 ![] bcast_S_S30x2048x10x128 (constant S_ .f32 0x43E00000#32))
    (maximumf (broadcastInDim S30x2048x10x128 ![] bcast_S_S30x2048x10x128 (constant S_ .f32 0xC3E00000#32))
      (mulf y (broadcastInDim S30x2048x10x128 ![0, 1, 2, 3] bcast_S30x2048x10x1_S30x2048x10x128_0_1_2_3
        (broadcastInDim S30x2048x10x1 ![0, 1, 2] bcast_S30x2048x10_S30x2048x10x1_0_1_2 (powArr (Host.negf e)))))))
    shapeCasts_S30x2048x10x128_S30x2048x1280

set_option maxHeartbeats 4000000 in
/-- The scales as the host operations compute them; -/
theorem scales_arr (c : Dev nD) : V m c main_v31
    = powArr (eArr (tArr (yArr (m ((c : Thread nD τ).loc main_arg0)) (m ((c : Thread nD τ).loc main_arg1))))) := by
  unfold V
  simp only [List.flatten_cons, List.flatten_nil, List.append_nil, List.cons_append, List.nil_append]
  after_reads_simp
  unfold powArr eArr tArr yArr
  rfl

set_option maxHeartbeats 4000000 in
/-- what the kernel is handed. -/
theorem q_arr (c : Dev nD) : V m c main_v38
    = qArr (yArr (m ((c : Thread nD τ).loc main_arg0)) (m ((c : Thread nD τ).loc main_arg1)))
      (eArr (tArr (yArr (m ((c : Thread nD τ).loc main_arg0)) (m ((c : Thread nD τ).loc main_arg1))))) := by
  unfold V
  simp only [List.flatten_cons, List.flatten_nil, List.append_nil, List.cons_append, List.nil_append]
  after_reads_simp
  unfold qArr powArr eArr tArr yArr
  rfl

/-! ## At an index -/

theorem yArr_at (A : FVec Ideal S30x2048x1280 .bf16) (g : FVec Ideal S1280 .bf16) (b : Fin 30) (n : Fin 2048) (j : Fin 10) (l : Fin 128) :
    yArr A g (ix4 b n j l) = Spec.y (fun k => A (ix3 b n k)) (fun k => g (ix1 k)) (col j l) := by
  have hc : (⟨j.val * 128 + l.val, by omega⟩ : Fin 1280) = col j l := Fin.ext (by show j.val * 128 + l.val = 128 * j.val + l.val; omega)
  pointwise [yArr]
  rw [hc]
  rfl

theorem tArr_at (y : FVec Ideal S30x2048x10x128 .f32) (b : Fin 30) (n : Fin 2048) (j : Fin 10) : tArr y (ix3 b n j)
    = (Finset.univ : Finset (Fin 128)).fold max (Ideal.ofBits .f32 0xFF800000#32) (fun l => max (y (ix4 b n j l)) (-y (ix4 b n j l)))
      * Ideal.ofBits .f32 0x3B124925#32 := by
  have h : S30x2048x10x128.Reduces [3] S30x2048x10 := by decide
  have hm : ∀ (a b : FVec Ideal S30x2048x10 .f32) (q : S30x2048x10.Idx), mulf a b q = a q * b q := fun _ _ _ => rfl
  have hl : ∀ l : Fin 128, h.lift (ix3 b n j) l = ix4 b n j l := fun l => by
    funext a
    match a with
    | ⟨0, _⟩ => rfl
    | ⟨1, _⟩ => rfl
    | ⟨2, _⟩ => rfl
    | ⟨3, _⟩ => rfl
  have hf : (Host.absf y ∘ h.lift (ix3 b n j)) = fun l : Fin 128 => max (y (ix4 b n j l)) (-y (ix4 b n j l)) :=
    funext fun l => congrArg (fun q => max (y q) (-y q)) (hl l)
  unfold tArr
  rw [hm, Host.reduce_eq_fold_single FloatOps.maximumf (Host.absf y) _ reducesTo_S30x2048x10x128_S30x2048x10_d3 h h_S_, hf]
  rfl

theorem eArr_at (t : FVec Ideal S30x2048x10 .f32) (q : S30x2048x10.Idx) : eArr t q = Exponent.expo (t q) := by
  pointwise [eArr]
  unfold Exponent.expo
  rw [Exponent.ofBits_one]
  rfl

theorem powArr_at (e : FVec Ideal S30x2048x10 .f32) (q : S30x2048x10.Idx) :
    powArr e q = Ideal.pow (Ideal.ofBits .f32 0x40000000#32) (e q) := by
  pointwise [powArr]

theorem qArr_at (y : FVec Ideal S30x2048x10x128 .f32) (e : FVec Ideal S30x2048x10 .f32) (b : Fin 30) (n : Fin 2048) (k : Fin 1280) :
    qArr y e (ix3 b n k) = min (Ideal.ofBits .f32 0x43E00000#32) (max (Ideal.ofBits .f32 0xC3E00000#32)
      (y (ix4 b n (colBlk k) (colLane k)) * Ideal.pow (Ideal.ofBits .f32 0x40000000#32) (-e (ix3 b n (colBlk k))))) := by
  pointwise [qArr, powArr]
  rfl

theorem t_spec (A : FVec Ideal S30x2048x1280 .bf16) (g : FVec Ideal S1280 .bf16) (b : Fin 30) (n : Fin 2048) (j : Fin 10) :
    tArr (yArr A g) (ix3 b n j) = Spec.t (fun k => A (ix3 b n k)) (fun k => g (ix1 k)) j := by
  rw [tArr_at]
  simp only [yArr_at]
  rfl

/-- The scales; -/
theorem scale_spec (A : FVec Ideal S30x2048x1280 .bf16) (g : FVec Ideal S1280 .bf16) (b : Fin 30) (n : Fin 2048) (j : Fin 10) :
    powArr (eArr (tArr (yArr A g))) (ix3 b n j) = Spec.scale (fun k => A (ix3 b n k)) (fun k => g (ix1 k)) j := by
  rw [powArr_at, eArr_at, t_spec]; rfl

/-- the codes. -/
theorem code_spec (A : FVec Ideal S30x2048x1280 .bf16) (g : FVec Ideal S1280 .bf16) (b : Fin 30) (n : Fin 2048) (k : Fin 1280) :
    qArr (yArr A g) (eArr (tArr (yArr A g))) (ix3 b n k) = Spec.code (fun k => A (ix3 b n k)) (fun k => g (ix1 k)) k := by
  rw [qArr_at, eArr_at, t_spec, yArr_at, Cert.KernelIdeal.Block.col_blk_lane]; rfl

end Cert.ReferenceIdeal.Value

end
-- ==== Proof.RefRun.lean ====
/-
  THE VALUES AFTER THE RUN of the reference's program, over the extended reals: its kernel casts the values it is handed, so its codes are those
  values; its scales are the host's.
-/
module

public import proofs.«01_k».proof.Proof.RefValue
public import Idealize.ShloMosaic.Lib.Pipeline.ValueKit.Geometry
public import Idealize.ShloMosaic.Lib.Claim

@[expose] public section

noncomputable section

namespace Cert.ReferenceIdeal.Value

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The kernel's output array holds what its input array held. -/
theorem codes_arr (c : Dev nD) : ((dats m 0 c).arrAt 1 cfg0.N : S30x2048x1280.Idx → EReal) = V m c main_v38 := by
  refine (dats m 0 c).arrAt_eq_of_covers 1 _ (by decide +kernel) fun t hf y => ?_
  blk_simp
  rw [after0_1]
  unfold out0_1
  refine (canon1_eq _ _).trans ?_
  show V m c main_v38 ((win0_0.blk t).view.emb (r0_0.idx (ix1_0 y))) = V m c main_v38 ((win0_1.blk t).view.emb y)
  refine congrArg _ (funext fun a => Fin.ext ?_)
  obtain ⟨t, ht⟩ := t
  have h0 : t = 0 := by have : t < 1 := ht; omega
  subst h0
  match a with
  | ⟨0, _⟩ => simp [win0_0, win0_1, r0_0, ix1_0]; rfl
  | ⟨1, _⟩ => simp [win0_0, win0_1, r0_0, ix1_0]; rfl
  | ⟨2, _⟩ => simp [win0_0, win0_1, r0_0, ix1_0]; rfl

theorem run_values : θ_run defs (onTc (τ := τ) (main (F := Ideal))) ⟨m, fun _ => 0, ρ⟩ (fun r => ∀ c : Dev nD,
      r.2.mem ((c : Thread nD τ).loc main_v39) = V m c main_v38
      ∧ r.2.mem ((c : Thread nD τ).loc main_v31) = V m c main_v31
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c => ⟨(post1 m r h c).trans (codes_arr m c),
      (h c).2 main_v31 (Pipeline.mem_restRefs_of main_v31 (by decide) (by decide)),
      kept_main_arg0 m r h c, kept_main_arg1 m r h c⟩)
    (run_main m ρ)

end Cert.ReferenceIdeal.Value

end
-- ==== Proof.Algebraic.lean ====
/-
  THE KERNEL COMPUTES THE REFERENCE'S MATHEMATICS, over the extended reals: both programs' runs, from memories that agree at the arguments, end with
  the same codes and the same scales, those of `Spec`.
-/
module

public import proofs.«01_k».proof.Defs
public import proofs.«01_k».proof.Proof.Gen.Pre_gamma_is_bf16
public import proofs.«01_k».proof.Proof.KernelRun
public import proofs.«01_k».proof.Proof.KernelValue
public import proofs.«01_k».proof.Proof.RefRun

@[expose] public section

noncomputable section

namespace Cert.Algebraic

open Idealize.ShloMosaic Idealize.ShloMosaic.TcCoe Idealize.SL.Sem
open Cert.KernelIdeal Cert.KernelIdeal.Gen Cert.KernelIdeal.Block

attribute [local instance] Cert.KernelIdeal.Gen.facts Cert.ReferenceIdeal.Gen.facts Cert.Pre_gamma_is_bf16.Gen.facts

/-- The weights as the kernel reads them: one row of the widened argument. -/
def gRow (g : FVec Ideal S1280 .bf16) : FVec Ideal S1x1280 .f32 :=
  shapeCast S1x1280 (extf .f32 g bitsLt_bf16_f32) shapeCasts_S1280_S1x1280

theorem gRow_at (g : FVec Ideal S1280 .bf16) (k : Fin 1280) : gRow g (ix2 0 k) = g (ix1 k) := by
  pointwise [gRow]

/-- The precondition at one weight, as the inequality it says. -/
theorem bound_of_pre (A : FVec Ideal S30x2048x1280 .bf16) (g : FVec Ideal S1280 .bf16)
    (h : Cert.Pre_gamma_is_bf16.fn (F := Ideal) A g = fun _ => 1#1) (k : Fin 1280) :
    max (gRow g (ix2 0 k)) (-gRow g (ix2 0 k)) ≤ Ideal.ofBits .f32 0x7F7F0000#32 := by
  rw [gRow_at]
  have h1 : BitVec.ofBool (decide (max (g (ix1 k)) (-g (ix1 k)) ≤ Ideal.ofBits .f32 0x7F7F0000#32)) = 1#1 := congrFun h (ix1 k)
  by_contra hn
  rw [decide_eq_false hn] at h1
  exact absurd h1 (by decide)

/-- An index of the codes, by its coordinates. -/
theorem idx_codes (q : S30x2048x1280.Idx) : ∃ b n k, q = ix3 b n k :=
  ⟨q 0, q 1, q 2, funext fun a => match a with | ⟨0, _⟩ => rfl | ⟨1, _⟩ => rfl | ⟨2, _⟩ => rfl⟩

/-- An index of the scales, by its coordinates. -/
theorem idx_scales (q : S30x2048x10.Idx) : ∃ b n j, q = ix3 b n j :=
  ⟨q 0, q 1, q 2, funext fun a => match a with | ⟨0, _⟩ => rfl | ⟨1, _⟩ => rfl | ⟨2, _⟩ => rfl⟩

/-- The codes of the two programs are the same array. -/
theorem codes_eq (A : FVec Ideal S30x2048x1280 .bf16) (g : FVec Ideal S1280 .bf16)
    (h : Cert.Pre_gamma_is_bf16.fn (F := Ideal) A g = fun _ => 1#1) :
    ReferenceIdeal.Value.qArr (ReferenceIdeal.Value.yArr A g) (ReferenceIdeal.Value.eArr (ReferenceIdeal.Value.tArr (ReferenceIdeal.Value.yArr A g)))
      = codeArr (F := Ideal) A (gRow g) := by
  funext q
  obtain ⟨b, n, k, rfl⟩ := idx_codes q
  refine (ReferenceIdeal.Value.code_spec A g b n k).trans ?_
  refine Eq.trans ?_ (codeArr_at A (gRow g) (bound_of_pre A g h) b n k).symm
  rw [show (fun k => gRow g (ix2 0 k)) = fun k => g (ix1 k) from funext (gRow_at g)]

/-- The transpose that puts the block's number last. -/
theorem transpose_at (s : FVec Ideal S10x30x2048 .f32) (b : Fin 30) (n : Fin 2048) (j : Fin 10) :
    transpose S30x2048x10 [1, 2, 0] s transposes_S10x30x2048_S30x2048x10_1_2_0 (ix3 b n j) = s (ix3 j b n) := by
  pointwise []

/-- The scales of the two programs are the same array. -/
theorem scales_eq (A : FVec Ideal S30x2048x1280 .bf16) (g : FVec Ideal S1280 .bf16)
    (h : Cert.Pre_gamma_is_bf16.fn (F := Ideal) A g = fun _ => 1#1) :
    ReferenceIdeal.Value.powArr (ReferenceIdeal.Value.eArr (ReferenceIdeal.Value.tArr (ReferenceIdeal.Value.yArr A g)))
      = transpose S30x2048x10 [1, 2, 0] (scaleArr (F := Ideal) A (gRow g)) transposes_S10x30x2048_S30x2048x10_1_2_0 := by
  funext q
  obtain ⟨b, n, j, rfl⟩ := idx_scales q
  refine (ReferenceIdeal.Value.scale_spec A g b n j).trans ?_
  refine Eq.trans ?_ (transpose_at _ b n j).symm
  refine Eq.trans ?_ (scaleArr_at A (gRow g) (bound_of_pre A g h) b n j).symm
  rw [show (fun k => gRow g (ix2 0 k)) = fun k => g (ix1 k) from funext (gRow_at g)]

/-- The two programs end with the same arrays. -/
theorem algebraic : Cert.algebraic_KernelIdeal_ReferenceIdeal_pre_gamma_is_bf16 := by
  intro m g m' g' hpre hag
  refine ⟨fun c => codeArr (xArr m c) (gArr m c),
    fun c => transpose S30x2048x10 [1, 2, 0] (scaleArr (xArr m c) (gArr m c)) transposes_S10x30x2048_S30x2048x10_1_2_0,
    run_values m g,
    (θ_run _ _ _).mono (fun r h c => ⟨(h c).1.trans ?_, (h c).2.1.trans ?_, (h c).2.2.1, (h c).2.2.2⟩) (ReferenceIdeal.Value.run_values m' g')⟩
  · refine (ReferenceIdeal.Value.q_arr m' c).trans ?_
    show _ = codeArr (xArr m c) (gArr m c)
    rw [xArr_eq, gArr_eq]
    refine Eq.trans ?_ (codes_eq _ _ (hpre c))
    rw [(hag c).1, (hag c).2]
  · refine (ReferenceIdeal.Value.scales_arr m' c).trans ?_
    show _ = transpose S30x2048x10 [1, 2, 0] (scaleArr (xArr m c) (gArr m c)) transposes_S10x30x2048_S30x2048x10_1_2_0
    rw [xArr_eq, gArr_eq]
    refine Eq.trans ?_ (scales_eq _ _ (hpre c))
    rw [(hag c).1, (hag c).2]

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.Pre_gamma_is_bf16
public import proofs.«01_k».proof.Proof.Machine
public import proofs.«01_k».proof.Proof.Algebraic
public import Idealize.ShloMosaic.Adequacy
public import Idealize.ShloMosaic.Init

@[expose] public section

noncomputable section

namespace Cert.Proof

open Idealize.ShloMosaic Idealize.SL.Sem

/-- The kernel is quiescent on the machine's floats and over the reals, the reference over the reals; idealizing rewrote nothing; and the two compute
    the same codes and scales. -/
theorem claim : Cert.Claim :=
  ⟨Cert.Kernel.Gen.facts, Cert.KernelIdeal.Gen.facts, Cert.ReferenceIdeal.Gen.facts, Cert.Pre_gamma_is_bf16.Gen.facts,
    Cert.Kernel.Machine.frame,
    fun m ρ _ => Cert.KernelIdeal.Block.frame m ρ, fun m ρ _ => Cert.KernelIdeal.Block.frame m ρ,
    fun m ρ _ => Cert.ReferenceIdeal.Gen.frame m ρ, fun m ρ _ => Cert.ReferenceIdeal.Gen.frame m ρ,
    trivial, Cert.Algebraic.algebraic⟩

end Cert.Proof

end
